-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x196x384 : Shape := ⟨3, ![16, 196, 384]⟩
abbrev S196x384x500 : Shape := ⟨3, ![196, 384, 500]⟩
abbrev S196x256x500 : Shape := ⟨3, ![196, 256, 500]⟩
abbrev S_ : Shape := ⟨0, ![]⟩

class Facts : Prop where
  bcast_S_S16x196x384 : S_.BroadcastsInDim S16x196x384 (![] : Fin 0 → Fin S16x196x384.rank)
  reducesTo_S16x196x384_S_d0_1_2 : S16x196x384.ReducesTo [0, 1, 2] S_
  h_S_ : 0 < S_.numel
  bcast_S_S196x384x500 : S_.BroadcastsInDim S196x384x500 (![] : Fin 0 → Fin S196x384x500.rank)
  reducesTo_S196x384x500_S_d0_1_2 : S196x384x500.ReducesTo [0, 1, 2] S_

variable [Facts]

def fn {F : FTy → Type} [FloatOps F] (main_arg0 : FVec F S16x196x384 .f32) (main_arg1 : FVec F S196x384x500 .f32) (main_arg2 : IVec S196x256x500 32) : IVec S_ 1 :=
  let main_v0 : FVec F S16x196x384 .f32 := Host.absf main_arg0
  let main_cst : FVec F S_ .f32 := constant S_ .f32 0x7F800000#32
  let main_v1 : FVec F S16x196x384 .f32 := broadcastInDim S16x196x384 ![] bcast_S_S16x196x384 main_cst
  let main_v2 : IVec S16x196x384 1 := cmpf .olt main_v0 main_v1
  let main_c : IVec S_ 1 := constantI S_ 1 1#1
  let main_v3 : IVec S_ 1 := (fun x v => Host.reduce IntOp.andi x v reducesTo_S16x196x384_S_d0_1_2 h_S_) main_v2 main_c
  let main_v4 : FVec F S196x384x500 .f32 := Host.absf main_arg1
  let main_cst_0 : FVec F S_ .f32 := constant S_ .f32 0x7F800000#32
  let main_v5 : FVec F S196x384x500 .f32 := broadcastInDim S196x384x500 ![] bcast_S_S196x384x500 main_cst_0
  let main_v6 : IVec S196x384x500 1 := cmpf .olt main_v4 main_v5
  let main_c_1 : IVec S_ 1 := constantI S_ 1 1#1
  let main_v7 : IVec S_ 1 := (fun x v => Host.reduce IntOp.andi x v reducesTo_S196x384x500_S_d0_1_2 h_S_) main_v6 main_c_1
  let main_v8 : IVec S_ 1 := andi main_v3 main_v7
  main_v8
-- ==== Kernel.lean ====
abbrev S16x196x384 : Shape := ⟨3, ![16, 196, 384]⟩
abbrev S196x384x500 : Shape := ⟨3, ![196, 384, 500]⟩
abbrev S196x256x500 : Shape := ⟨3, ![196, 256, 500]⟩
abbrev S196x16x384 : Shape := ⟨3, ![196, 16, 384]⟩
abbrev S320x14x16x14x1x16 : Shape := ⟨6, ![320, 14, 16, 14, 1, 16]⟩
abbrev S196x16x20 : Shape := ⟨3, ![196, 16, 20]⟩
abbrev S1x16x384 : Shape := ⟨3, ![1, 16, 384]⟩
abbrev S1x384x500 : Shape := ⟨3, ![1, 384, 500]⟩
abbrev S1x256x500 : Shape := ⟨3, ![1, 256, 500]⟩
abbrev S320x1x16x1x1x16 : Shape := ⟨6, ![320, 1, 16, 1, 1, 16]⟩
abbrev S1x16x20 : Shape := ⟨3, ![1, 16, 20]⟩
abbrev S16x384 : Shape := ⟨2, ![16, 384]⟩
abbrev S384x500 : Shape := ⟨2, ![384, 500]⟩
abbrev S16x500 : Shape := ⟨2, ![16, 500]⟩
abbrev S16 : Shape := ⟨1, ![16]⟩
abbrev S16x1 : Shape := ⟨2, ![16, 1]⟩
abbrev S16x20 : Shape := ⟨2, ![16, 20]⟩
abbrev S16x320 : Shape := ⟨2, ![16, 320]⟩
abbrev S320 : Shape := ⟨1, ![320]⟩
abbrev S1x320 : Shape := ⟨2, ![1, 320]⟩
abbrev S500x320 : Shape := ⟨2, ![500, 320]⟩
abbrev S256x500 : Shape := ⟨2, ![256, 500]⟩
abbrev S320x256 : Shape := ⟨2, ![320, 256]⟩
abbrev S320x16 : Shape := ⟨2, ![320, 16]⟩
abbrev S320x1x1x1x1x16 : Shape := ⟨6, ![320, 1, 1, 1, 1, 16]⟩
abbrev S16x20x224x224 : Shape := ⟨4, ![16, 20, 224, 224]⟩
abbrev S16x196x20 : Shape := ⟨3, ![16, 196, 20]⟩

abbrev nBuf : Space → Nat
  | .hbm => 8
  | .vmem => 10
  | .smem => 0
  | _ => 0

abbrev bufTy : (tb : Table) → Fin (tcTables nBuf tb) → BufTy
  | .hbm, ⟨0, _⟩ => ⟨S16x196x384, .f32⟩
  | .hbm, ⟨1, _⟩ => ⟨S196x384x500, .f32⟩
  | .hbm, ⟨2, _⟩ => ⟨S196x256x500, .i32⟩
  | .hbm, ⟨3, _⟩ => ⟨S196x16x384, .f32⟩
  | .hbm, ⟨4, _⟩ => ⟨S320x14x16x14x1x16, .i32⟩
  | .hbm, ⟨5, _⟩ => ⟨S196x16x20, .f32⟩
  | .hbm, ⟨6, _⟩ => ⟨S16x20x224x224, .i32⟩
  | .hbm, ⟨7, _⟩ => ⟨S16x196x20, .f32⟩
  | .local _ .vmem, ⟨0, _⟩ => ⟨S1x16x384, .f32⟩
  | .local _ .vmem, ⟨1, _⟩ => ⟨S1x16x384, .f32⟩
  | .local _ .vmem, ⟨2, _⟩ => ⟨S1x384x500, .f32⟩
  | .local _ .vmem, ⟨3, _⟩ => ⟨S1x384x500, .f32⟩
  | .local _ .vmem, ⟨4, _⟩ => ⟨S1x256x500, .i32⟩
  | .local _ .vmem, ⟨5, _⟩ => ⟨S1x256x500, .i32⟩
  | .local _ .vmem, ⟨6, _⟩ => ⟨S320x1x16x1x1x16, .i32⟩
  | .local _ .vmem, ⟨7, _⟩ => ⟨S320x1x16x1x1x16, .i32⟩
  | .local _ .vmem, ⟨8, _⟩ => ⟨S1x16x20, .f32⟩
  | .local _ .vmem, ⟨9, _⟩ => ⟨S1x16x20, .f32⟩
  | _, _ => ⟨S16x196x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![196], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 6 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  let c0_i32_14 : BitVec 32 := 0#32
  ![c0_i32_10.toNat, v16.toNat, c0_i32_11.toNat, v26.toNat, c0_i32_12.toNat, c0_i32_13.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x500 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1x16x1x1x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x196x384 : Shape := ⟨3, ![16, 196, 384]⟩
abbrev S196x384x500 : Shape := ⟨3, ![196, 384, 500]⟩
abbrev S196x256x500 : Shape := ⟨3, ![196, 256, 500]⟩
abbrev S196x500x16 : Shape := ⟨3, ![196, 500, 16]⟩
abbrev S16x196x500 : Shape := ⟨3, ![16, 196, 500]⟩
abbrev S16x196x20 : Shape := ⟨3, ![16, 196, 20]⟩
abbrev S16x196x1x20 : Shape := ⟨4, ![16, 196, 1, 20]⟩
abbrev S16x196x256x20 : Shape := ⟨4, ![16, 196, 256, 20]⟩
abbrev S1x196x256x500 : Shape := ⟨4, ![1, 196, 256, 500]⟩
abbrev S16x196x256x500 : Shape := ⟨4, ![16, 196, 256, 500]⟩
abbrev S_ : Shape := ⟨0, ![]⟩
abbrev S16x196x256x20x1 : Shape := ⟨5, ![16, 196, 256, 20, 1]⟩
abbrev S1 : Shape := ⟨1, ![1]⟩
abbrev S1x1x1x1x1 : Shape := ⟨5, ![1, 1, 1, 1, 1]⟩
abbrev S16x196x20x256 : Shape := ⟨4, ![16, 196, 20, 256]⟩
abbrev S16x196x20x16x16 : Shape := ⟨5, ![16, 196, 20, 16, 16]⟩
abbrev S16x14x14x20x16x16 : Shape := ⟨6, ![16, 14, 14, 20, 16, 16]⟩
abbrev S16x20x14x16x14x16 : Shape := ⟨6, ![16, 20, 14, 16, 14, 16]⟩
abbrev S16x20x224x224 : Shape := ⟨4, ![16, 20, 224, 224]⟩

abbrev nBuf : Space → Nat
  | .hbm => 38
  | .vmem => 0
  | .smem => 0
  | _ => 0

abbrev bufTy : (tb : Table) → Fin (tcTables nBuf tb) → BufTy
  | .hbm, ⟨0, _⟩ => ⟨S16x196x384, .f32⟩
  | .hbm, ⟨1, _⟩ => ⟨S196x384x500, .f32⟩
  | .hbm, ⟨2, _⟩ => ⟨S196x256x500, .i32⟩
  | .hbm, ⟨3, _⟩ => ⟨S196x500x16, .f32⟩
  | .hbm, ⟨4, _⟩ => ⟨S16x196x500, .f32⟩
  | .hbm, ⟨5, _⟩ => ⟨S16x196x20, .f32⟩
  | .hbm, ⟨6, _⟩ => ⟨S16x196x20, .i32⟩
  | .hbm, ⟨7, _⟩ => ⟨S16x196x1x20, .i32⟩
  | .hbm, ⟨8, _⟩ => ⟨S16x196x256x20, .i32⟩
  | .hbm, ⟨9, _⟩ => ⟨S1x196x256x500, .i32⟩
  | .hbm, ⟨10, _⟩ => ⟨S16x196x256x500, .i32⟩
  | .hbm, ⟨11, _⟩ => ⟨S_, .i32⟩
  | .hbm, ⟨12, _⟩ => ⟨S16x196x256x20, .i32⟩
  | .hbm, ⟨13, _⟩ => ⟨S16x196x256x20, .i1⟩
  | .hbm, ⟨14, _⟩ => ⟨S_, .i32⟩
  | .hbm, ⟨15, _⟩ => ⟨S16x196x256x20, .i32⟩
  | .hbm, ⟨16, _⟩ => ⟨S16x196x256x20, .i32⟩
  | .hbm, ⟨17, _⟩ => ⟨S16x196x256x20, .i32⟩
  | .hbm, ⟨18, _⟩ => ⟨S16x196x256x20x1, .i32⟩
  | .hbm, ⟨19, _⟩ => ⟨S1, .i32⟩
  | .hbm, ⟨20, _⟩ => ⟨S_, .i32⟩
  | .hbm, ⟨21, _⟩ => ⟨S16x196x256x20x1, .i32⟩
  | .hbm, ⟨22, _⟩ => ⟨S16x196x256x20x1, .i1⟩
  | .hbm, ⟨23, _⟩ => ⟨S1x1x1x1x1, .i32⟩
  | .hbm, ⟨24, _⟩ => ⟨S16x196x256x20x1, .i32⟩
  | .hbm, ⟨25, _⟩ => ⟨S16x196x256x20x1, .i1⟩
  | .hbm, ⟨26, _⟩ => ⟨S16x196x256x20x1, .i1⟩
  | .hbm, ⟨27, _⟩ => ⟨S_, .i1⟩
  | .hbm, ⟨28, _⟩ => ⟨S16x196x256x20, .i1⟩
  | .hbm, ⟨29, _⟩ => ⟨S16x196x256x20, .i32⟩
  | .hbm, ⟨30, _⟩ => ⟨S_, .i32⟩
  | .hbm, ⟨31, _⟩ => ⟨S16x196x256x20, .i32⟩
  | .hbm, ⟨32, _⟩ => ⟨S16x196x256x20, .i32⟩
  | .hbm, ⟨33, _⟩ => ⟨S16x196x20x256, .i32⟩
  | .hbm, ⟨34, _⟩ => ⟨S16x196x20x16x16, .i32⟩
  | .hbm, ⟨35, _⟩ => ⟨S16x14x14x20x16x16, .i32⟩
  | .hbm, ⟨36, _⟩ => ⟨S16x20x14x16x14x16, .i32⟩
  | .hbm, ⟨37, _⟩ => ⟨S16x20x224x224, .i32⟩
  | _, _ => ⟨S16x196x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_values : Ref sig .tc := ⟨.hbm, 5, rfl⟩
abbrev main_indices : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_c_4 : Ref sig .tc := ⟨.hbm, 30, rfl⟩
abbrev main_call0_v14 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩

abbrev nD : Nat := 1
abbrev τ : Topo := Topo.v7x

variable {F : FTy → Type} [FloatOps F]
-- ==== Proof.Pick.lean ====
/-
  Taking the greatest entries of a row one at a time. A row is a function from its positions to extended reals. A round
  takes the row's greatest entry, at the first position that holds it, and writes `-∞` there. This module says what the
  rounds take: on a row without `-∞`, round `r` takes the entry that a stable descending sort of the row puts at `r`.
-/
module

public import Idealize.ShloMosaic.Lib.SortPrefix
public import Mathlib.Data.EReal.Basic
public import Mathlib.Data.Finset.Max
public import Mathlib.Data.Finset.Lattice.Fold

@[expose] public section

noncomputable section

namespace Cert.Knn

open Idealize.ShloMosaic

variable {n : Nat}

/-- The greatest entry of a row (`-∞` for an empty one). -/
def top (s : Fin n → EReal) : EReal := Finset.univ.sup s

/-- Every entry is at most the greatest. -/
theorem le_top (s : Fin n → EReal) (l : Fin n) : s l ≤ top s := Finset.le_sup (Finset.mem_univ l)

/-- A row with a position attains its greatest entry. -/
theorem exists_eq_top [NeZero n] (s : Fin n → EReal) : ∃ l, s l = top s := by
  obtain ⟨l, -, h⟩ := Finset.exists_mem_eq_sup (Finset.univ : Finset (Fin n)) ⟨0, Finset.mem_univ _⟩ s
  exact ⟨l, h.symm⟩

open Classical in
/-- The first position that holds the greatest entry. -/
def pick [NeZero n] (s : Fin n → EReal) : Fin n :=
  (Finset.univ.filter fun l => s l = top s).min' (by
    obtain ⟨l, h⟩ := exists_eq_top s
    exact ⟨l, Finset.mem_filter.mpr ⟨Finset.mem_univ _, h⟩⟩)

variable [NeZero n]

/-- The picked position holds the greatest entry. -/
theorem apply_pick (s : Fin n → EReal) : s (pick s) = top s := by
  classical
  have h := Finset.min'_mem (Finset.univ.filter fun l => s l = top s) (by
    obtain ⟨l, h⟩ := exists_eq_top s
    exact ⟨l, Finset.mem_filter.mpr ⟨Finset.mem_univ _, h⟩⟩)
  exact (Finset.mem_filter.mp h).2

/-- No earlier position holds the greatest entry. -/
theorem pick_le (s : Fin n → EReal) (l : Fin n) (h : s l = top s) : pick s ≤ l := by
  classical
  exact (Finset.univ.filter fun l => s l = top s).min'_le l (Finset.mem_filter.mpr ⟨Finset.mem_univ _, h⟩)

/-- One round: `-∞` written at the picked position. -/
def mask (s : Fin n → EReal) : Fin n → EReal := fun l => if l = pick s then ⊥ else s l

/-- The row after `r` rounds. -/
def after (s : Fin n → EReal) : Nat → Fin n → EReal
  | 0 => s
  | r + 1 => mask (after s r)

/-- The position round `r` picks. -/
def pickAt (s : Fin n → EReal) (r : Nat) : Fin n := pick (after s r)

/-- The entry round `r` takes. -/
def topAt (s : Fin n → EReal) (r : Nat) : EReal := top (after s r)

/-- After `r` rounds the positions picked so far hold `-∞` and the others what they held. -/
theorem after_apply (s : Fin n → EReal) (r : Nat) (l : Fin n) :
    after s r l = if ∃ q < r, pickAt s q = l then ⊥ else s l := by
  induction r with
  | zero => simp [after]
  | succ r ih =>
    show mask (after s r) l = _
    unfold mask
    by_cases h : l = pick (after s r)
    · rw [if_pos h, if_pos ⟨r, Nat.lt_succ_self r, h.symm⟩]
    · rw [if_neg h, ih]
      refine if_congr ⟨?_, ?_⟩ rfl rfl
      · rintro ⟨q, hq, e⟩; exact ⟨q, Nat.lt_succ_of_lt hq, e⟩
      · rintro ⟨q, hq, e⟩
        rcases Nat.lt_succ_iff_lt_or_eq.mp hq with h' | rfl
        · exact ⟨q, h', e⟩
        · exact absurd e.symm h

/-- While fewer rounds than positions have run, some position is still unpicked. -/
theorem exists_unpicked (s : Fin n → EReal) {r : Nat} (hr : r < n) : ∃ l, ∀ q < r, pickAt s q ≠ l := by
  classical
  by_contra hc
  have hall : ∀ l : Fin n, ∃ q < r, pickAt s q = l := fun l => by
    by_contra h'
    exact hc ⟨l, fun q hq e => h' ⟨q, hq, e⟩⟩
  have hsub : (Finset.univ : Finset (Fin n)) ⊆ (Finset.range r).image (pickAt s) := fun l _ => by
    obtain ⟨q, hq, e⟩ := hall l
    exact Finset.mem_image.mpr ⟨q, Finset.mem_range.mpr hq, e⟩
  have h1 := Finset.card_le_card hsub
  have h2 : ((Finset.range r).image (pickAt s)).card ≤ r := by
    simpa using Finset.card_image_le (s := Finset.range r) (f := pickAt s)
  rw [Finset.card_univ, Fintype.card_fin] at h1
  omega

/-- On a row without `-∞`, while a position is left, what a round takes is not `-∞`. -/
theorem topAt_ne_bot (s : Fin n → EReal) (hs : ∀ l, s l ≠ ⊥) {r : Nat} (hr : r < n) : topAt s r ≠ ⊥ := by
  obtain ⟨l, hl⟩ := exists_unpicked s hr
  have h : after s r l = s l := by
    rw [after_apply, if_neg]
    rintro ⟨q, hq, e⟩; exact hl q hq e
  intro e
  have := le_top (after s r) l
  rw [h] at this
  exact hs l (le_bot_iff.mp (this.trans_eq e))

/-- … so a round picks a position that no earlier round picked. -/
theorem pickAt_ne (s : Fin n → EReal) (hs : ∀ l, s l ≠ ⊥) {q r : Nat} (hq : q < r) (hr : r < n) :
    pickAt s q ≠ pickAt s r := by
  intro e
  have h := apply_pick (after s r)
  have hb : after s r (pick (after s r)) = ⊥ := by
    rw [after_apply, if_pos]
    exact ⟨q, hq, e⟩
  exact topAt_ne_bot s hs hr (h.symm.trans hb)

/-- … and takes the entry the row itself holds there. -/
theorem apply_pickAt (s : Fin n → EReal) (hs : ∀ l, s l ≠ ⊥) {r : Nat} (hr : r < n) : s (pickAt s r) = topAt s r := by
  have h := apply_pick (after s r)
  rw [after_apply, if_neg] at h
  · exact h
  · rintro ⟨q, hq, e⟩; exact pickAt_ne s hs hq hr e

/-- The order of a stable descending sort, on positions: the greater entry first, of equal entries the earlier. -/
def before (s : Fin n → EReal) (k k' : Fin n) : Bool :=
  decide (s k' < s k) || (decide (s k = s k') && decide (k < k'))

omit [NeZero n] in
/-- That order is a strict total order on the positions. -/
theorem before_total (s : Fin n → EReal) : StrictTotalBefore (before s) := by
  classical
  have h := StrictTotalBefore.of_key_then_position (n := n) (κ := EReal) (fun a b => decide (b < a)) s
    (fun a => by simp) (fun a b c h1 h2 => by
      simp only [decide_eq_true_eq] at *; exact h2.trans h1)
    (fun a b => by
      simp only [decide_eq_true_eq]
      rcases lt_trichotomy a b with h | h | h
      · exact .inr (.inr h)
      · exact .inr (.inl h)
      · exact .inl h)
  exact (by
    have e : before s = fun k k' : Fin n => decide (s k' < s k) || (decide (s k = s k') && decide (k < k')) := rfl
    rw [e]; convert h)

/-- A position not picked before round `r` is not before the one round `r` picks. -/
theorem not_before_pickAt (s : Fin n → EReal) (hs : ∀ l, s l ≠ ⊥) {r : Nat} (hr : r < n) (p : Fin n)
    (hp : ∀ q < r, pickAt s q ≠ p) : before s p (pickAt s r) = false := by
  have hap : after s r p = s p := by
    rw [after_apply, if_neg]
    rintro ⟨q, hq, e⟩; exact hp q hq e
  have hle : s p ≤ s (pickAt s r) := by
    rw [apply_pickAt s hs hr, ← hap]; exact le_top _ _
  have hmin : s p = s (pickAt s r) → pickAt s r ≤ p := fun e => by
    refine pick_le _ _ ?_
    rw [hap, e, apply_pickAt s hs hr]; rfl
  unfold before
  rw [Bool.or_eq_false_iff, Bool.and_eq_false_iff, decide_eq_false_iff_not, decide_eq_false_iff_not,
    decide_eq_false_iff_not]
  refine ⟨not_lt.mpr hle, ?_⟩
  by_cases e : s p = s (pickAt s r)
  · exact .inr (not_lt.mpr (hmin e))
  · exact .inl e

/-- The position a sort by that order puts at `r` is the one round `r` picks, for the first `k` positions. -/
theorem sortedFrom_before (s : Fin n → EReal) (hs : ∀ l, s l ≠ ⊥) {k : Nat} (hk : k ≤ n) (r : Fin k) :
    sortedFrom (before s) (r.castLE hk) = pickAt s r := by
  refine (before_total s).sortedFrom_eq_of_prefix hk (fun r : Fin k => pickAt s r) ?_ ?_ ?_ r
  · intro i j e
    rcases lt_trichotomy i.val j.val with h | h | h
    · exact absurd e (pickAt_ne s hs h (j.isLt.trans_le hk))
    · exact Fin.ext h
    · exact absurd e.symm (pickAt_ne s hs h (i.isLt.trans_le hk))
  · intro i j hij
    refine not_before_pickAt s hs (i.isLt.trans_le hk) _ fun q hq => ?_
    exact pickAt_ne s hs (hq.trans hij) (j.isLt.trans_le hk)
  · intro i p hp
    exact not_before_pickAt s hs (i.isLt.trans_le hk) _ fun q hq => hp ⟨q, hq.trans i.isLt⟩

/-- A stable insertion sort of an increasing list of positions by the entries alone is the sort by the entries and then
    the position. -/
theorem stableSort_eq (s : Fin n → EReal) (R : Fin n → Fin n → Bool) (hR : ∀ k k', R k k' = decide (s k' < s k))
    (l : List (Fin n)) (hl : l.Pairwise (· < ·)) : stableSort R l = stableSort (before s) l := by
  induction l with
  | nil => rfl
  | cons a l ih =>
    obtain ⟨h1, h2⟩ := List.pairwise_cons.mp hl
    show insertBefore R a (stableSort R l) = insertBefore (before s) a (stableSort (before s) l)
    rw [ih h2]
    refine insertBefore_congr R (before s) a _ fun b hb => ?_
    have hab : a < b := h1 b ((perm_stableSort _ _).mem_iff.mp hb)
    rw [hR]
    unfold before
    rw [decide_eq_false (not_lt.mpr hab.le), Bool.and_false, Bool.or_false]

/-- So the position the stable sort by the entries alone puts at `r` is the one round `r` picks. -/
theorem sortedFrom_eq_pickAt (s : Fin n → EReal) (hs : ∀ l, s l ≠ ⊥) (R : Fin n → Fin n → Bool)
    (hR : ∀ k k', R k k' = decide (s k' < s k)) {k : Nat} (hk : k ≤ n) (r : Fin k) :
    sortedFrom R (r.castLE hk) = pickAt s r := by
  rw [← sortedFrom_before s hs hk r]
  unfold sortedFrom
  refine List.get_of_eq ?_ _
  exact stableSort_eq s R hR _ (List.pairwise_lt_finRange n)

end Cert.Knn

end
-- ==== Proof.Rounds.lean ====
/-
  One round of the kernel on a block of sixteen rows, as the vector operations it is written in, and what the round
  does to each row: the greatest entry, its first position, `-∞` written there.
-/
module

public import proofs.«01_k».proof.Proof.Gen.KernelIdeal
public import proofs.«01_k».proof.Proof.Pick
public import Idealize.ShloMosaic.Lib.Pointwise
public import Idealize.ShloMosaic.Lib.SortNet.Extract

@[expose] public section

set_option maxRecDepth 16384

noncomputable section

namespace Cert.Knn

open Idealize.ShloMosaic Cert.KernelIdeal Cert.KernelIdeal.Gen

/-- The lane numbers of a block. -/
def lanes : IVec S16x500 32 := iota .tc S16x500 32 [1] iota_S16x500_d1_w32

/-- Each row's greatest entry. -/
def maxOf (s : FVec Ideal S16x500 .f32) : FVec Ideal S16 .f32 :=
  multiReduction .maximumf [1] S16 s 0xFF800000#32 reduces_S16x500_S16 (.inl rfl) rfl

/-- The same as a column. -/
def maxCol (s : FVec Ideal S16x500 .f32) : FVec Ideal S16x1 .f32 := shapeCast S16x1 (maxOf s) shapeCasts_S16_S16x1

/-- Each row's first lane that holds the greatest entry. -/
def argOf (s : FVec Ideal S16x500 .f32) : IVec S16 32 :=
  multiReductionI .minsi [1] S16
    (select (cmpf .oeq s (broadcastTo S16x500 (maxCol s) broadcasts_S16x1_S16x500)) lanes (broadcast S16x500 500#32))
    2147483647#32 reduces_S16x500_S16 rfl

/-- The same as a column. -/
def argCol (s : FVec Ideal S16x500 .f32) : IVec S16x1 32 := shapeCast S16x1 (argOf s) shapeCasts_S16_S16x1

/-- Which lanes the round masks. -/
def hit (s : FVec Ideal S16x500 .f32) : IVec S16x500 1 :=
  cmpi .eq lanes (broadcastTo S16x500 (argCol s) broadcasts_S16x1_S16x500)

/-- The block after the round. -/
def next (s : FVec Ideal S16x500 .f32) : FVec Ideal S16x500 .f32 :=
  select (hit s) (broadcast S16x500 (Scalar.ofBits (F := Ideal) .f32 0xFF800000#32)) s

/-- The block after `r` rounds. -/
def block (s : FVec Ideal S16x500 .f32) : Nat → FVec Ideal S16x500 .f32
  | 0 => s
  | r + 1 => next (block s r)

/-- Row `i` of a block. -/
def row (s : FVec Ideal S16x500 .f32) (i : Fin 16) : Fin 500 → EReal := fun l => s (ix2 i l)

/-- The `f32` pattern of `-∞` denotes `-∞`. -/
theorem ofBits_ninf : (Ideal.ofBits .f32 0xFF800000#32 : EReal) = ⊥ := by
  simp [Ideal.ofBits, Ideal.ieee]

/-- A row's entry of the maxima is the row's greatest entry. -/
theorem maxOf_apply (s : FVec Ideal S16x500 .f32) (i : Fin 16) : maxOf s (ix1 i) = top (row s i) := by
  pointwise [maxOf]
  rw [ofBits_ninf]
  rfl

/-- The signed minimum is one of its arguments. -/
theorem minsi_eq_or (a b : BitVec 32) : IntOp.minsi a b = a ∨ IntOp.minsi a b = b := by
  unfold IntOp.minsi
  split
  · exact .inl rfl
  · exact .inr rfl

/-- A fold of the signed minimum is at most its start and every term, and is one of them. -/
theorem fold_minsi_spec {ι : Type} [DecidableEq ι] (g : ι → BitVec 32) (s : Finset ι) (init : BitVec 32) :
    (s.fold IntOp.minsi init g).toInt ≤ init.toInt ∧ (∀ k ∈ s, (s.fold IntOp.minsi init g).toInt ≤ (g k).toInt) ∧
      (s.fold IntOp.minsi init g = init ∨ ∃ k ∈ s, s.fold IntOp.minsi init g = g k) := by
  induction s using Finset.induction_on with
  | empty => simp
  | insert a s ha ih =>
    obtain ⟨h1, h2, h3⟩ := ih
    rw [Finset.fold_insert ha]
    refine ⟨?_, ?_, ?_⟩
    · rw [Idealize.ShloMosaic.SortNet.toInt_minsi]; omega
    · intro k hk
      rw [Idealize.ShloMosaic.SortNet.toInt_minsi]
      rcases Finset.mem_insert.mp hk with rfl | hk
      · omega
      · have := h2 k hk; omega
    · rcases minsi_eq_or (g a) (s.fold IntOp.minsi init g) with h | h
      · exact .inr ⟨a, Finset.mem_insert_self _ _, h⟩
      · rw [h]
        rcases h3 with h3 | ⟨k, hk, h3⟩
        · exact .inl h3
        · exact .inr ⟨k, Finset.mem_insert_of_mem hk, h3⟩

/-- A small number's word, read as a signed integer, is the number. -/
theorem toInt_small {k : Nat} (hk : k < 2147483648) : (BitVec.ofNat 32 k).toInt = k := by
  rw [BitVec.toInt_eq_toNat_cond, BitVec.toNat_ofNat]
  split <;> omega

/-- A row's entry of the positions is the first position of the row's greatest entry. -/
theorem argOf_apply (s : FVec Ideal S16x500 .f32) (i : Fin 16) : argOf s (ix1 i) = BitVec.ofNat 32 (pick (row s i)).val := by
  pointwise [argOf, maxCol]
  simp only [maxOf_apply]
  have hl : ∀ x : Fin 500, lanes (ix2 i x) = BitVec.ofNat 32 x.val := by
    intro x
    pointwise [lanes]
  simp only [hl]
  obtain ⟨h1, h2, h3⟩ := fold_minsi_spec
    (fun x : Fin 500 => if s (ix2 i x) = top (row s i) then BitVec.ofNat 32 x.val else 500#32) Finset.univ 2147483647#32
  have hp := h2 (pick (row s i)) (Finset.mem_univ _)
  have he : s (ix2 i (pick (row s i))) = top (row s i) := apply_pick (row s i)
  rw [if_pos he, toInt_small (by omega)] at hp
  have hb := (pick (row s i)).isLt
  rcases h3 with h3 | ⟨k, -, h3⟩
  · have hc : (2147483647#32 : BitVec 32).toInt = 2147483647 := by rfl
    rw [h3, hc] at hp
    omega
  · by_cases hk : s (ix2 i k) = top (row s i)
    · rw [if_pos hk] at h3
      have := pick_le (row s i) k hk
      rw [h3, toInt_small (by omega)] at hp
      have hle : (pick (row s i)).val ≤ k.val := this
      have heq : k.val = (pick (row s i)).val := by omega
      rw [h3, heq]
    · rw [if_neg hk] at h3
      rw [h3, show (500#32 : BitVec 32).toInt = 500 by decide] at hp
      omega

/-- The next block is, in each row, the row with its picked entry masked by `-∞`. -/
theorem next_apply (s : FVec Ideal S16x500 .f32) (i : Fin 16) (l : Fin 500) : next s (ix2 i l) = mask (row s i) l := by
  pointwise [next, hit, argCol]
  have hl : lanes (ix2 i l) = BitVec.ofNat 32 l.val := by
    pointwise [lanes]
  rw [hl, argOf_apply, ofBits_ninf]
  have hb := (pick (row s i)).isLt
  unfold mask
  by_cases h : l = pick (row s i)
  · subst h
    simp [IntOp.cmpi, Scalar.select]
  · have hne : BitVec.ofNat 32 l.val ≠ BitVec.ofNat 32 (pick (row s i)).val := by
      intro h'
      apply h
      have := congrArg BitVec.toInt h'
      rw [toInt_small (by omega), toInt_small (by omega)] at this
      exact Fin.ext (by omega)
    rw [IntOp.cmpi, Scalar.select, if_neg h, beq_eq_false_iff_ne.mpr hne]
    simp [row]

/-- A row of the block after a round. -/
theorem row_next (s : FVec Ideal S16x500 .f32) (i : Fin 16) : row (next s) i = mask (row s i) :=
  funext fun l => next_apply s i l

/-- A row of the block after `r` rounds is the row after `r` rounds. -/
theorem row_block (s : FVec Ideal S16x500 .f32) (i : Fin 16) (r : Nat) : row (block s r) i = after (row s i) r := by
  induction r with
  | zero => rfl
  | succ r ih => rw [block, row_next, ih]; rfl

/-- What round `r` takes from row `i`. -/
theorem maxCol_block (s : FVec Ideal S16x500 .f32) (i : Fin 16) (r : Nat) :
    maxCol (block s r) (ix2 i 0) = topAt (row s i) r := by
  pointwise [maxCol]
  rw [maxOf_apply, row_block]
  rfl

/-- Where round `r` takes it. -/
theorem argCol_block (s : FVec Ideal S16x500 .f32) (i : Fin 16) (r : Nat) :
    argCol (block s r) (ix2 i 0) = BitVec.ofNat 32 (pickAt (row s i) r).val := by
  pointwise [argCol]
  rw [argOf_apply, row_block]
  rfl

end Cert.Knn

end
-- ==== Proof.Stretch.lean ====
/-
  The printed kernel's values between its loads and its stores, named by the rounds: the block after so many rounds,
  and the two tables the rounds fill — the distances and the positions.
-/
module

public import proofs.«01_k».proof.Proof.Gen.KernelIdeal.Frame
public import proofs.«01_k».proof.Proof.Rounds

@[expose] public section

set_option maxRecDepth 16384

noncomputable section

namespace Cert.Knn

open Idealize.ShloMosaic Cert.KernelIdeal Cert.KernelIdeal.Gen

/-- The lanes that hold their row's greatest entry. -/
def ties (s : FVec Ideal S16x500 .f32) : IVec S16x500 1 :=
  cmpf .oeq s (broadcastTo S16x500 (maxCol s) broadcasts_S16x1_S16x500)

/-- The round's maxima. -/
theorem pay5_eq (a : Vec Ideal S1x16x384 .f32) (b : Vec Ideal S1x384x500 .f32) : k0_pay5 a b = maxCol (k0_pay4 a b) := rfl

/-- The round's positions. -/
theorem pay6_eq (a : Vec Ideal S1x16x384 .f32) (b : Vec Ideal S1x384x500 .f32) : k0_pay6 (F := Ideal) a b = argCol (k0_pay4 a b) := rfl

/-- The block after one more round. -/
theorem pay7_eq (a : Vec Ideal S1x16x384 .f32) (b : Vec Ideal S1x384x500 .f32) : k0_pay7 a b = next (k0_pay4 a b) := rfl

/-- The round's maxima. -/
theorem pay8_eq (a : Vec Ideal S1x16x384 .f32) (b : Vec Ideal S1x384x500 .f32) : k0_pay8 a b = maxCol (k0_pay7 a b) := rfl

/-- The round's positions. -/
theorem pay9_eq (a : Vec Ideal S1x16x384 .f32) (b : Vec Ideal S1x384x500 .f32) : k0_pay9 (F := Ideal) a b = argCol (k0_pay7 a b) := rfl

/-- The block after one more round. -/
theorem pay10_eq (a : Vec Ideal S1x16x384 .f32) (b : Vec Ideal S1x384x500 .f32) : k0_pay10 a b = next (k0_pay7 a b) := rfl

/-- The round's maxima. -/
theorem pay11_eq (a : Vec Ideal S1x16x384 .f32) (b : Vec Ideal S1x384x500 .f32) : k0_pay11 a b = maxCol (k0_pay10 a b) := rfl

/-- The round's positions. -/
theorem pay12_eq (a : Vec Ideal S1x16x384 .f32) (b : Vec Ideal S1x384x500 .f32) : k0_pay12 (F := Ideal) a b = argCol (k0_pay10 a b) := rfl

/-- The lanes to mask this stretch hands on. -/
theorem pay13_eq (a : Vec Ideal S1x16x384 .f32) (b : Vec Ideal S1x384x500 .f32) : k0_pay13 (F := Ideal) a b = hit (k0_pay10 a b) := rfl

/-- The block at the start of this stretch of rounds is one round on. -/
theorem pay14_eq (s : FVec Ideal S16x500 .f32) : k0_pay14 s (hit s) (Scalar.ofBits (F := Ideal) .f32 0xFF800000#32) = next s := rfl

/-- The round's maxima. -/
theorem pay15_eq (s : FVec Ideal S16x500 .f32) : k0_pay15 s (hit s) (Scalar.ofBits (F := Ideal) .f32 0xFF800000#32) = maxCol (k0_pay14 s (hit s) (Scalar.ofBits (F := Ideal) .f32 0xFF800000#32)) := rfl

/-- The round's positions. -/
theorem pay16_eq (s : FVec Ideal S16x500 .f32) : k0_pay16 lanes s (hit s) (Scalar.ofBits (F := Ideal) .f32 0xFF800000#32) = argCol (k0_pay14 s (hit s) (Scalar.ofBits (F := Ideal) .f32 0xFF800000#32)) := rfl

/-- The block after one more round. -/
theorem pay17_eq (s : FVec Ideal S16x500 .f32) : k0_pay17 lanes s (hit s) (Scalar.ofBits (F := Ideal) .f32 0xFF800000#32) = next (k0_pay14 s (hit s) (Scalar.ofBits (F := Ideal) .f32 0xFF800000#32)) := rfl

/-- The round's maxima. -/
theorem pay18_eq (s : FVec Ideal S16x500 .f32) : k0_pay18 lanes s (hit s) (Scalar.ofBits (F := Ideal) .f32 0xFF800000#32) = maxCol (k0_pay17 lanes s (hit s) (Scalar.ofBits (F := Ideal) .f32 0xFF800000#32)) := rfl

/-- The round's positions. -/
theorem pay19_eq (s : FVec Ideal S16x500 .f32) : k0_pay19 lanes s (hit s) (Scalar.ofBits (F := Ideal) .f32 0xFF800000#32) = argCol (k0_pay17 lanes s (hit s) (Scalar.ofBits (F := Ideal) .f32 0xFF800000#32)) := rfl

/-- The block after one more round. -/
theorem pay20_eq (s : FVec Ideal S16x500 .f32) : k0_pay20 lanes s (hit s) (Scalar.ofBits (F := Ideal) .f32 0xFF800000#32) = next (k0_pay17 lanes s (hit s) (Scalar.ofBits (F := Ideal) .f32 0xFF800000#32)) := rfl

/-- The round's maxima. -/
theorem pay21_eq (s : FVec Ideal S16x500 .f32) : k0_pay21 lanes s (hit s) (Scalar.ofBits (F := Ideal) .f32 0xFF800000#32) = maxCol (k0_pay20 lanes s (hit s) (Scalar.ofBits (F := Ideal) .f32 0xFF800000#32)) := rfl

/-- The round's positions. -/
theorem pay22_eq (s : FVec Ideal S16x500 .f32) : k0_pay22 lanes s (hit s) (Scalar.ofBits (F := Ideal) .f32 0xFF800000#32) = argCol (k0_pay20 lanes s (hit s) (Scalar.ofBits (F := Ideal) .f32 0xFF800000#32)) := rfl

/-- The block after one more round. -/
theorem pay23_eq (s : FVec Ideal S16x500 .f32) : k0_pay23 lanes s (hit s) (Scalar.ofBits (F := Ideal) .f32 0xFF800000#32) = next (k0_pay20 lanes s (hit s) (Scalar.ofBits (F := Ideal) .f32 0xFF800000#32)) := rfl

/-- The round's maxima. -/
theorem pay24_eq (s : FVec Ideal S16x500 .f32) : k0_pay24 lanes s (hit s) (Scalar.ofBits (F := Ideal) .f32 0xFF800000#32) = maxCol (k0_pay23 lanes s (hit s) (Scalar.ofBits (F := Ideal) .f32 0xFF800000#32)) := rfl

/-- The positions this stretch hands on. -/
theorem pay25_eq (s : FVec Ideal S16x500 .f32) : k0_pay25 lanes s (hit s) (Scalar.ofBits (F := Ideal) .f32 0xFF800000#32) = argOf (k0_pay23 lanes s (hit s) (Scalar.ofBits (F := Ideal) .f32 0xFF800000#32)) := rfl

/-- The block at the start of this stretch of rounds is one round on. -/
theorem pay27_eq (s : FVec Ideal S16x500 .f32) : k0_pay27 (F := Ideal) lanes s (argOf s) = next s := rfl

/-- The round's maxima. -/
theorem pay28_eq (s : FVec Ideal S16x500 .f32) : k0_pay28 lanes s (argOf s) = maxCol (k0_pay27 (F := Ideal) lanes s (argOf s)) := rfl

/-- The round's positions. -/
theorem pay29_eq (s : FVec Ideal S16x500 .f32) : k0_pay29 lanes s (argOf s) = argCol (k0_pay27 (F := Ideal) lanes s (argOf s)) := rfl

/-- The block after one more round. -/
theorem pay30_eq (s : FVec Ideal S16x500 .f32) : k0_pay30 lanes s (argOf s) = next (k0_pay27 (F := Ideal) lanes s (argOf s)) := rfl

/-- The round's maxima. -/
theorem pay31_eq (s : FVec Ideal S16x500 .f32) : k0_pay31 lanes s (argOf s) = maxCol (k0_pay30 lanes s (argOf s)) := rfl

/-- The round's positions. -/
theorem pay32_eq (s : FVec Ideal S16x500 .f32) : k0_pay32 lanes s (argOf s) = argCol (k0_pay30 lanes s (argOf s)) := rfl

/-- The block after one more round. -/
theorem pay33_eq (s : FVec Ideal S16x500 .f32) : k0_pay33 lanes s (argOf s) = next (k0_pay30 lanes s (argOf s)) := rfl

/-- The round's maxima. -/
theorem pay34_eq (s : FVec Ideal S16x500 .f32) : k0_pay34 lanes s (argOf s) = maxCol (k0_pay33 lanes s (argOf s)) := rfl

/-- The round's positions. -/
theorem pay35_eq (s : FVec Ideal S16x500 .f32) : k0_pay35 lanes s (argOf s) = argCol (k0_pay33 lanes s (argOf s)) := rfl

/-- The block after one more round. -/
theorem pay36_eq (s : FVec Ideal S16x500 .f32) : k0_pay36 lanes s (argOf s) = next (k0_pay33 lanes s (argOf s)) := rfl

/-- The round's maxima. -/
theorem pay37_eq (s : FVec Ideal S16x500 .f32) : k0_pay37 lanes s (argOf s) = maxCol (k0_pay36 lanes s (argOf s)) := rfl

/-- The lanes at the maximum this stretch hands on. -/
theorem pay38_eq (s : FVec Ideal S16x500 .f32) : k0_pay38 lanes s (argOf s) = ties (k0_pay36 lanes s (argOf s)) := rfl

/-- The block at the start of this stretch of rounds is one round on. -/
theorem pay40_eq (s : FVec Ideal S16x500 .f32) : k0_pay40 lanes s (ties s) 500#32 = next s := rfl

/-- The round's maxima. -/
theorem pay41_eq (s : FVec Ideal S16x500 .f32) : k0_pay41 lanes s (ties s) 500#32 = maxCol (k0_pay40 lanes s (ties s) 500#32) := rfl

/-- The round's positions. -/
theorem pay42_eq (s : FVec Ideal S16x500 .f32) : k0_pay42 lanes s (ties s) 500#32 = argCol (k0_pay40 lanes s (ties s) 500#32) := rfl

/-- The block after one more round. -/
theorem pay43_eq (s : FVec Ideal S16x500 .f32) : k0_pay43 lanes s (ties s) 500#32 = next (k0_pay40 lanes s (ties s) 500#32) := rfl

/-- The round's maxima. -/
theorem pay44_eq (s : FVec Ideal S16x500 .f32) : k0_pay44 lanes s (ties s) 500#32 = maxCol (k0_pay43 lanes s (ties s) 500#32) := rfl

/-- The round's positions. -/
theorem pay45_eq (s : FVec Ideal S16x500 .f32) : k0_pay45 lanes s (ties s) 500#32 = argCol (k0_pay43 lanes s (ties s) 500#32) := rfl

/-- The block after one more round. -/
theorem pay46_eq (s : FVec Ideal S16x500 .f32) : k0_pay46 lanes s (ties s) 500#32 = next (k0_pay43 lanes s (ties s) 500#32) := rfl

/-- The round's maxima. -/
theorem pay47_eq (s : FVec Ideal S16x500 .f32) : k0_pay47 lanes s (ties s) 500#32 = maxCol (k0_pay46 lanes s (ties s) 500#32) := rfl

/-- The round's positions. -/
theorem pay48_eq (s : FVec Ideal S16x500 .f32) : k0_pay48 lanes s (ties s) 500#32 = argCol (k0_pay46 lanes s (ties s) 500#32) := rfl

/-- The block after one more round. -/
theorem pay49_eq (s : FVec Ideal S16x500 .f32) : k0_pay49 lanes s (ties s) 500#32 = next (k0_pay46 lanes s (ties s) 500#32) := rfl

/-- The maxima this stretch hands on. -/
theorem pay50_eq (s : FVec Ideal S16x500 .f32) : k0_pay50 lanes s (ties s) 500#32 = maxOf (k0_pay49 lanes s (ties s) 500#32) := rfl

/-- The block at the start of this stretch of rounds is one round on. -/
theorem pay53_eq (s : FVec Ideal S16x500 .f32) : k0_pay53 lanes s (maxOf s) = next s := rfl

/-- The round's maxima. -/
theorem pay54_eq (s : FVec Ideal S16x500 .f32) : k0_pay54 lanes s (maxOf s) = maxCol (k0_pay53 lanes s (maxOf s)) := rfl

/-- The round's positions. -/
theorem pay55_eq (s : FVec Ideal S16x500 .f32) : k0_pay55 lanes s (maxOf s) = argCol (k0_pay53 lanes s (maxOf s)) := rfl

/-- The block after one more round. -/
theorem pay56_eq (s : FVec Ideal S16x500 .f32) : k0_pay56 lanes s (maxOf s) = next (k0_pay53 lanes s (maxOf s)) := rfl

/-- The round's maxima. -/
theorem pay57_eq (s : FVec Ideal S16x500 .f32) : k0_pay57 lanes s (maxOf s) = maxCol (k0_pay56 lanes s (maxOf s)) := rfl

/-- The round's positions. -/
theorem pay58_eq (s : FVec Ideal S16x500 .f32) : k0_pay58 lanes s (maxOf s) = argCol (k0_pay56 lanes s (maxOf s)) := rfl

/-- The block after one more round. -/
theorem pay59_eq (s : FVec Ideal S16x500 .f32) : k0_pay59 lanes s (maxOf s) = next (k0_pay56 lanes s (maxOf s)) := rfl

/-- The round's maxima. -/
theorem pay60_eq (s : FVec Ideal S16x500 .f32) : k0_pay60 lanes s (maxOf s) = maxCol (k0_pay59 lanes s (maxOf s)) := rfl

/-- The round's positions. -/
theorem pay61_eq (s : FVec Ideal S16x500 .f32) : k0_pay61 lanes s (maxOf s) = argCol (k0_pay59 lanes s (maxOf s)) := rfl

/-- The lanes to mask this stretch hands on. -/
theorem pay62_eq (s : FVec Ideal S16x500 .f32) : k0_pay62 lanes s (maxOf s) = hit (k0_pay59 lanes s (maxOf s)) := rfl

/-- The block at the start of this stretch of rounds is one round on. -/
theorem pay63_eq (s : FVec Ideal S16x500 .f32) : k0_pay63 s (hit s) (Scalar.ofBits (F := Ideal) .f32 0xFF800000#32) = next s := rfl

/-- The round's maxima. -/
theorem pay64_eq (s : FVec Ideal S16x500 .f32) : k0_pay64 s (hit s) (Scalar.ofBits (F := Ideal) .f32 0xFF800000#32) = maxCol (k0_pay63 s (hit s) (Scalar.ofBits (F := Ideal) .f32 0xFF800000#32)) := rfl

/-- The round's positions. -/
theorem pay65_eq (s : FVec Ideal S16x500 .f32) : k0_pay65 lanes s (hit s) (Scalar.ofBits (F := Ideal) .f32 0xFF800000#32) = argCol (k0_pay63 s (hit s) (Scalar.ofBits (F := Ideal) .f32 0xFF800000#32)) := rfl

/-- The block after one more round. -/
theorem pay66_eq (s : FVec Ideal S16x500 .f32) : k0_pay66 lanes s (hit s) (Scalar.ofBits (F := Ideal) .f32 0xFF800000#32) = next (k0_pay63 s (hit s) (Scalar.ofBits (F := Ideal) .f32 0xFF800000#32)) := rfl

/-- The round's maxima. -/
theorem pay67_eq (s : FVec Ideal S16x500 .f32) : k0_pay67 lanes s (hit s) (Scalar.ofBits (F := Ideal) .f32 0xFF800000#32) = maxCol (k0_pay66 lanes s (hit s) (Scalar.ofBits (F := Ideal) .f32 0xFF800000#32)) := rfl

/-- Positions as a column. -/
theorem pay26_eq (s : FVec Ideal S16x500 .f32) : k0_pay26 (argOf s) = argCol s := rfl

/-- The positions of the lanes handed on. -/
theorem pay39_eq (s : FVec Ideal S16x500 .f32) : k0_pay39 lanes (ties s) 500#32 = argCol s := rfl

/-- Maxima as a column. -/
theorem pay51_eq (s : FVec Ideal S16x500 .f32) : k0_pay51 (maxOf s) = maxCol s := rfl

/-- The positions of the maxima handed on. -/
theorem pay52_eq (s : FVec Ideal S16x500 .f32) : k0_pay52 lanes s (maxOf s) = argCol s := rfl

/-- The twenty maxima of each row, side by side. -/
def maxima (s : FVec Ideal S16x500 .f32) : FVec Ideal S16x20 .f32 :=
  concatenate S16x20 1 [⟨S16x1, maxCol (block s 0)⟩, ⟨S16x1, maxCol (block s 1)⟩, ⟨S16x1, maxCol (block s 2)⟩, ⟨S16x1, maxCol (block s 3)⟩, ⟨S16x1, maxCol (block s 4)⟩, ⟨S16x1, maxCol (block s 5)⟩, ⟨S16x1, maxCol (block s 6)⟩, ⟨S16x1, maxCol (block s 7)⟩, ⟨S16x1, maxCol (block s 8)⟩, ⟨S16x1, maxCol (block s 9)⟩, ⟨S16x1, maxCol (block s 10)⟩, ⟨S16x1, maxCol (block s 11)⟩, ⟨S16x1, maxCol (block s 12)⟩, ⟨S16x1, maxCol (block s 13)⟩, ⟨S16x1, maxCol (block s 14)⟩, ⟨S16x1, maxCol (block s 15)⟩, ⟨S16x1, maxCol (block s 16)⟩, ⟨S16x1, maxCol (block s 17)⟩, ⟨S16x1, maxCol (block s 18)⟩, ⟨S16x1, maxCol (block s 19)⟩]
    concatenates_S16x1_S16x1_S16x1_S16x1_S16x1_S16x1_S16x1_S16x1_S16x1_S16x1_S16x1_S16x1_S16x1_S16x1_S16x1_S16x1_S16x1_S16x1_S16x1_S16x1_S16x20_d1

/-- The twenty positions of each row, side by side. -/
def indices (s : FVec Ideal S16x500 .f32) : IVec S16x20 32 :=
  concatenate S16x20 1 [⟨S16x1, argCol (block s 0)⟩, ⟨S16x1, argCol (block s 1)⟩, ⟨S16x1, argCol (block s 2)⟩, ⟨S16x1, argCol (block s 3)⟩, ⟨S16x1, argCol (block s 4)⟩, ⟨S16x1, argCol (block s 5)⟩, ⟨S16x1, argCol (block s 6)⟩, ⟨S16x1, argCol (block s 7)⟩, ⟨S16x1, argCol (block s 8)⟩, ⟨S16x1, argCol (block s 9)⟩, ⟨S16x1, argCol (block s 10)⟩, ⟨S16x1, argCol (block s 11)⟩, ⟨S16x1, argCol (block s 12)⟩, ⟨S16x1, argCol (block s 13)⟩, ⟨S16x1, argCol (block s 14)⟩, ⟨S16x1, argCol (block s 15)⟩, ⟨S16x1, argCol (block s 16)⟩, ⟨S16x1, argCol (block s 17)⟩, ⟨S16x1, argCol (block s 18)⟩, ⟨S16x1, argCol (block s 19)⟩]
    concatenates_S16x1_S16x1_S16x1_S16x1_S16x1_S16x1_S16x1_S16x1_S16x1_S16x1_S16x1_S16x1_S16x1_S16x1_S16x1_S16x1_S16x1_S16x1_S16x1_S16x1_S16x20_d1

/-- The positions, repeated sixteen times along the lanes. -/
def tiled (s : FVec Ideal S16x500 .f32) : IVec S16x320 32 :=
  concatenate S16x320 1 [⟨S16x20, indices s⟩, ⟨S16x20, indices s⟩, ⟨S16x20, indices s⟩, ⟨S16x20, indices s⟩, ⟨S16x20, indices s⟩, ⟨S16x20, indices s⟩, ⟨S16x20, indices s⟩, ⟨S16x20, indices s⟩, ⟨S16x20, indices s⟩, ⟨S16x20, indices s⟩, ⟨S16x20, indices s⟩, ⟨S16x20, indices s⟩, ⟨S16x20, indices s⟩, ⟨S16x20, indices s⟩, ⟨S16x20, indices s⟩, ⟨S16x20, indices s⟩]
    concatenates_S16x20_S16x20_S16x20_S16x20_S16x20_S16x20_S16x20_S16x20_S16x20_S16x20_S16x20_S16x20_S16x20_S16x20_S16x20_S16x20_S16x320_d1

/-- The similarities of a block: what the kernel's first matrix product leaves. -/
def sims (x0 : Vec Ideal S1x16x384 .f32) (x1 : Vec Ideal S1x384x500 .f32) : FVec Ideal S16x500 .f32 :=
  k0_pay4 (View.ld x0 r0_0) (View.ld x1 r0_1)

section Stretches

variable (x0 : Vec Ideal S1x16x384 .f32) (x1 : Vec Ideal S1x384x500 .f32) (x2 : Vec Ideal S1x256x500 .i32)

/-- The column numbers that the rounds compare with. -/
theorem lanes_eq : k0_pay89 (F := Ideal) x0 x1 x2 = lanes := rfl

/-- The block after two rounds. -/
theorem pay90_eq : k0_pay90 (F := Ideal) x0 x1 x2 = block (sims x0 x1) 2 := by
  unfold k0_pay90
  simp only [lanes_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The lanes round two masks. -/
theorem pay91_eq : k0_pay91 (F := Ideal) x0 x1 x2 = hit (block (sims x0 x1) 2) := by
  unfold k0_pay91
  simp only [lanes_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The block after six rounds. -/
theorem pay92_eq : k0_pay92 (F := Ideal) x0 x1 x2 = block (sims x0 x1) 6 := by
  unfold k0_pay92
  simp only [lanes_eq, pay90_eq, pay91_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The positions of round six. -/
theorem pay93_eq : k0_pay93 (F := Ideal) x0 x1 x2 = argOf (block (sims x0 x1) 6) := by
  unfold k0_pay93
  simp only [lanes_eq, pay90_eq, pay91_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The block after ten rounds. -/
theorem pay94_eq : k0_pay94 (F := Ideal) x0 x1 x2 = block (sims x0 x1) 10 := by
  unfold k0_pay94
  simp only [lanes_eq, pay92_eq, pay93_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The lanes at the maximum of round ten. -/
theorem pay95_eq : k0_pay95 (F := Ideal) x0 x1 x2 = ties (block (sims x0 x1) 10) := by
  unfold k0_pay95
  simp only [lanes_eq, pay92_eq, pay93_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The block after fourteen rounds. -/
theorem pay96_eq : k0_pay96 (F := Ideal) x0 x1 x2 = block (sims x0 x1) 14 := by
  unfold k0_pay96
  simp only [lanes_eq, pay94_eq, pay95_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The maxima of round fourteen. -/
theorem pay97_eq : k0_pay97 (F := Ideal) x0 x1 x2 = maxOf (block (sims x0 x1) 14) := by
  unfold k0_pay97
  simp only [lanes_eq, pay94_eq, pay95_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The block after seventeen rounds. -/
theorem pay98_eq : k0_pay98 (F := Ideal) x0 x1 x2 = block (sims x0 x1) 17 := by
  unfold k0_pay98
  simp only [lanes_eq, pay96_eq, pay97_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The lanes round seventeen masks. -/
theorem pay99_eq : k0_pay99 (F := Ideal) x0 x1 x2 = hit (block (sims x0 x1) 17) := by
  unfold k0_pay99
  simp only [lanes_eq, pay96_eq, pay97_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The table of positions the kernel goes on with. -/
theorem pay102_eq : k0_pay102 (F := Ideal) x0 x1 x2 = tiled (sims x0 x1) := by
  unfold k0_pay102
  simp only [lanes_eq, pay90_eq, pay91_eq, pay92_eq, pay93_eq, pay94_eq, pay95_eq, pay96_eq, pay97_eq, pay98_eq, pay99_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  unfold k0_pay69
  simp only [pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

/-- The table of distances the kernel stores. -/
theorem out0_4_eq : out0_4 x0 x1 x2 =
    View.canon [⟨r0_2, shapeCast S1x16x20 (maxima (sims x0 x1)) shapeCasts_S16x20_S1x16x20⟩] := by
  unfold out0_4
  simp only [lanes_eq, pay90_eq, pay91_eq, pay92_eq, pay93_eq, pay94_eq, pay95_eq, pay96_eq, pay97_eq, pay98_eq, pay99_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  unfold k0_pay68
  simp only [pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay27_eq, pay28_eq, pay29_eq, pay30_eq, pay31_eq, pay32_eq, pay33_eq, pay34_eq, pay35_eq, pay36_eq, pay37_eq, pay38_eq, pay40_eq, pay41_eq, pay42_eq, pay43_eq, pay44_eq, pay45_eq, pay46_eq, pay47_eq, pay48_eq, pay49_eq, pay50_eq, pay53_eq, pay54_eq, pay55_eq, pay56_eq, pay57_eq, pay58_eq, pay59_eq, pay60_eq, pay61_eq, pay62_eq, pay63_eq, pay64_eq, pay65_eq, pay66_eq, pay67_eq, pay26_eq, pay39_eq, pay51_eq, pay52_eq]
  rfl

end Stretches

end Cert.Knn

end
-- ==== Proof.Tables.lean ====
/-
  The tables the rounds fill, read at an entry: the greatest entries of each row, and their positions.
-/
module

public import proofs.«01_k».proof.Proof.Stretch

@[expose] public section

set_option maxRecDepth 16384

noncomputable section

namespace Cert.Knn

open Idealize.ShloMosaic Cert.KernelIdeal Cert.KernelIdeal.Gen

/-- The maxima table at an entry: what round `k` takes from row `i`. -/
theorem maxima_apply (s : FVec Ideal S16x500 .f32) (i : Fin 16) (k : Fin 20) :
    maxima s (ix2 i k) = topAt (row s i) k.val := by
  exact Eq.trans (concatenate_ofFn_unit_apply (t := S16x20) 1 (fun n : Fin 20 => maxCol (block s n.val)) _ rfl rfl (ix2 i k) k rfl (ix2 i 0)
    (by
      intro b hb
      match b, hb with
      | ⟨0, _⟩, _ => rfl
      | ⟨1, _⟩, hb => exact absurd rfl hb)) (maxCol_block s i k.val)

/-- The position table at an entry: where round `k` takes it. -/
theorem indices_apply (s : FVec Ideal S16x500 .f32) (i : Fin 16) (k : Fin 20) :
    indices s (ix2 i k) = BitVec.ofNat 32 (pickAt (row s i) k.val).val := by
  exact Eq.trans (concatenate_ofFn_unit_apply (t := S16x20) 1 (fun n : Fin 20 => argCol (block s n.val)) _ rfl rfl (ix2 i k) k rfl (ix2 i 0)
    (by
      intro b hb
      match b, hb with
      | ⟨0, _⟩, _ => rfl
      | ⟨1, _⟩, hb => exact absurd rfl hb)) (argCol_block s i k.val)

/-- The repeated table at an entry: the position table at the lane modulo twenty. -/
theorem tiled_apply (s : FVec Ideal S16x500 .f32) (i : Fin 16) (l : Fin 320) :
    tiled s (ix2 i l) = indices s (ix2 i ⟨l.val % 20, Nat.mod_lt _ (by omega)⟩) :=
  concatenate_replicate_apply (t := S16x320) 1 16 (indices s) _ rfl (ix2 i l) (ix2 i ⟨l.val % 20, Nat.mod_lt _ (by omega)⟩)
    rfl (by
      intro b hb
      match b, hb with
      | ⟨0, _⟩, _ => rfl
      | ⟨1, _⟩, hb => exact absurd rfl hb)

end Cert.Knn

end
-- ==== Proof.Spread.lean ====
/-
  From the positions to the labels: lane `l` of the wide block belongs to row `l / 20` and round `l % 20`; the kernel
  spreads each row's positions over its own lanes and reads the labels there by a product with a one-hot matrix.
-/
module

public import proofs.«01_k».proof.Proof.Tables

@[expose] public section

set_option maxRecDepth 16384

noncomputable section

namespace Cert.Knn

open Idealize.ShloMosaic Cert.KernelIdeal Cert.KernelIdeal.Gen

/-- The row each lane belongs to, as the kernel computes it: a quotient rounded towards `-∞`. -/
def owner : IVec S16x320 32 :=
  select (andi (cmpi .ne (k0_pay71) (broadcast S16x320 (Scalar.subi (Scalar.extui (Scalar.cmpi .sgt 20#32 0#32)) (Scalar.extui (Scalar.cmpi .slt 20#32 0#32)))))
      (cmpi .ne (remsi (iota .tc S16x320 32 [1] iota_S16x320_d1_w32) (broadcast S16x320 20#32)) (broadcast S16x320 0#32)))
    (subi k0_pay70 (broadcast S16x320 1#32)) k0_pay70

/-- Lane `l` belongs to row `l / 20`. -/
theorem owner_apply (i : Fin 16) (l : Fin 320) : owner (ix2 i l) = BitVec.ofNat 32 (l.val / 20) := by
  pointwise [owner, k0_pay70, k0_pay71]
  revert l
  decide +kernel

/-- The positions spread over the lanes: each lane keeps its own row's entry, `-1` elsewhere, and takes the greatest. -/
def spread (t : IVec S16x320 32) : IVec S320 32 :=
  multiReductionI .maxsi [0] S320
    (select (cmpi .eq owner (iota .tc S16x320 32 [0] iota_S16x320_d0_w32)) t (broadcast S16x320 4294967295#32))
    2147483648#32 reduces_S16x320_S320 rfl

/-- Each lane of the spread positions holds its own row's entry, when that entry is not negative. -/
theorem spread_apply (t : IVec S16x320 32) (l : Fin 320) (h : 0 ≤ (t (ix2 ⟨l.val / 20, by omega⟩ l)).toInt) :
    spread t (ix1 l) = t (ix2 ⟨l.val / 20, by omega⟩ l) := by
  pointwise [spread]
  simp only [owner_apply]
  have hl : l.val / 20 < 16 := by omega
  have hsel : ∀ x : Fin 16, Scalar.select (IntOp.cmpi CmpIPredicate.eq (BitVec.ofNat 32 (l.val / 20)) (BitVec.ofNat 32 x.val))
      (t (ix2 x l)) 4294967295#32 = if x = ⟨l.val / 20, hl⟩ then t (ix2 x l) else 4294967295#32 := by
    intro x
    by_cases hx : x = ⟨l.val / 20, hl⟩
    · rw [if_pos hx, hx]
      simp [IntOp.cmpi, Scalar.select]
    · have hne : BitVec.ofNat 32 (l.val / 20) ≠ BitVec.ofNat 32 x.val := by
        intro h'
        apply hx
        have := congrArg BitVec.toInt h'
        rw [toInt_small (by omega), toInt_small (by omega)] at this
        exact Fin.ext (by show x.val = l.val / 20; omega)
      rw [if_neg hx, IntOp.cmpi, Scalar.select, beq_eq_false_iff_ne.mpr hne]
      simp
  simp only [hsel]
  obtain ⟨-, h2, h3⟩ := Idealize.ShloMosaic.SortNet.fold_maxsi_spec
    (fun x : Fin 16 => if x = ⟨l.val / 20, hl⟩ then t (ix2 x l) else 4294967295#32) Finset.univ 2147483648#32
  have hp := h2 ⟨l.val / 20, hl⟩ (Finset.mem_univ _)
  rw [if_pos rfl] at hp
  have hc1 : (2147483648#32 : BitVec 32).toInt = -2147483648 := by rfl
  have hc2 : (4294967295#32 : BitVec 32).toInt = -1 := by rfl
  rcases h3 with h3 | ⟨k, -, h3⟩
  · rw [h3, hc1] at hp
    omega
  · by_cases hk : k = ⟨l.val / 20, hl⟩
    · rw [h3, if_pos hk, hk]
    · rw [if_neg hk] at h3
      rw [h3, hc2] at hp
      omega

/-- The one-hot matrix of a row of positions. -/
def oneHot (p : IVec S320 32) : FVec Ideal S500x320 .bf16 :=
  truncf .bf16 (sitofp .f32 (extui 32 (cmpi .eq (iota .tc S500x320 32 [0] iota_S500x320_d0_w32)
    (broadcastTo S500x320 (shapeCast S1x320 p shapeCasts_S320_S1x320) broadcasts_S1x320_S500x320)) natLt_1_32)) bitsLt_bf16_f32

/-- The labels at a row of positions, as the kernel's second product leaves them. -/
def labels (p : IVec S320 32) (x : Vec Ideal S1x256x500 .i32) : IVec S320x256 32 :=
  fptosi 32 (matmul dot_S500x320_S256x500_S320x256_0_1_1_0_n_n none (oneHot p)
    (sitofp (F := Ideal) .bf16 (shapeCast S256x500 x shapeCasts_S1x256x500_S256x500) : FVec Ideal S256x500 .bf16)
    (constant S320x256 .f32 0x00000000#32))

/-- A word, made a real and back again, is itself. -/
theorem fptosi_toInt (b : BitVec 32) : FloatOps.fptosi (F := Ideal) (φ := .f32) 32 (((b.toInt : ℝ) : EReal)) = b := by
  have h1 := BitVec.toInt_lt (x := b)
  have h2 := BitVec.le_toInt (x := b)
  show Ideal.fptosi 32 (((b.toInt : ℝ) : EReal)) = b
  rw [Ideal.fptosi, Ideal.toIntClamped_coe]
  simp only [Int.floor_intCast, Int.ceil_intCast, ite_self]
  rw [min_eq_right (by omega), max_eq_right (by omega), BitVec.ofInt_toInt]

/-- The labels at a lane: the label row at the lane's position. -/
theorem labels_apply (p : IVec S320 32) (x : Vec Ideal S1x256x500 .i32) (l : Fin 320) (c : Fin 256) (k : Fin 500)
    (hk : p (ix1 l) = BitVec.ofNat 32 k.val) : labels p x (ix2 l c) = x (ix3 0 c k) := by
  pointwise [labels, oneHot]
  rw [hk]
  have hsum : ∀ z : Fin 500, FloatOps.sitofp (F := Ideal) FTy.f32 (BitVec.setWidth 32
      (IntOp.cmpi CmpIPredicate.eq (BitVec.ofNat 32 z.val) (BitVec.ofNat 32 k.val))) *
      FloatOps.sitofp (F := Ideal) FTy.bf16 (x (ix3 0 c z)) =
        if z = k then (((x (ix3 0 c z)).toInt : ℝ) : EReal) else 0 := by
    intro z
    show (((BitVec.setWidth 32 _ : BitVec 32).toInt : ℝ) : EReal) * (((x (ix3 0 c z)).toInt : ℝ) : EReal) = _
    by_cases hz : z = k
    · rw [if_pos hz, hz]
      simp [IntOp.cmpi]
    · have hne : BitVec.ofNat 32 z.val ≠ BitVec.ofNat 32 k.val := by
        intro h'
        apply hz
        have := congrArg BitVec.toInt h'
        rw [toInt_small (by omega), toInt_small (by omega)] at this
        exact Fin.ext (by omega)
      rw [if_neg hz, IntOp.cmpi, beq_eq_false_iff_ne.mpr hne]
      simp
  rw [Finset.sum_congr rfl fun z _ => hsum z, Finset.sum_ite_eq' Finset.univ k, if_pos (Finset.mem_univ _)]
  exact fptosi_toInt (x (ix3 0 c k))

/-- The last stretch of the kernel, from the repeated table to the labels. -/
theorem pay72_eq (t : IVec S16x320 32) (x : Vec Ideal S1x256x500 .i32) :
    k0_pay72 t (iota .tc S16x320 32 [1] iota_S16x320_d1_w32) (iota .tc S16x320 32 [0] iota_S16x320_d0_w32) 20#32
      k0_pay70 k0_pay71
      (Scalar.subi (Scalar.extui (Scalar.cmpi .sgt 20#32 0#32)) (Scalar.extui (Scalar.cmpi .slt 20#32 0#32))) x =
    labels (spread t) x := rfl

/-- What the kernel slices into its first result. -/
theorem pay105_eq (x0 : Vec Ideal S1x16x384 .f32) (x1 : Vec Ideal S1x384x500 .f32) (x2 : Vec Ideal S1x256x500 .i32) :
    k0_pay105 x0 x1 x2 = labels (spread (tiled (sims x0 x1))) (View.ld x2 r0_3) := by
  unfold k0_pay105
  rw [pay102_eq]
  exact pay72_eq _ _

/-- At lane `l` and label column `c`: the label of the position that round `l % 20` picks in row `l / 20`. -/
theorem pay105_apply (x0 : Vec Ideal S1x16x384 .f32) (x1 : Vec Ideal S1x384x500 .f32) (x2 : Vec Ideal S1x256x500 .i32)
    (l : Fin 320) (c : Fin 256) :
    k0_pay105 x0 x1 x2 (ix2 l c) =
      View.ld x2 r0_3 (ix3 0 c (pickAt (row (sims x0 x1) ⟨l.val / 20, by omega⟩) (l.val % 20))) := by
  have ht : tiled (sims x0 x1) (ix2 ⟨l.val / 20, by omega⟩ l) =
      BitVec.ofNat 32 (pickAt (row (sims x0 x1) ⟨l.val / 20, by omega⟩) (l.val % 20)).val := by
    rw [tiled_apply, indices_apply]
  have hs := (pickAt (row (sims x0 x1) ⟨l.val / 20, by omega⟩) (l.val % 20)).isLt
  rw [pay105_eq]
  refine labels_apply _ _ l c _ ?_
  rw [spread_apply _ l (by rw [ht, toInt_small (by omega)]; omega), ht]

end Cert.Knn

end
-- ==== Proof.Blocks.lean ====
/-
  What the kernel leaves in its two output blocks, read at an index: the distances of the block's rows, and the labels
  of the picked positions laid out as sixteen by sixteen tiles.
-/
module

public import proofs.«01_k».proof.Proof.Spread
public import Idealize.ShloMosaic.Lib.Pipeline.Value

@[expose] public section

set_option maxRecDepth 16384

noncomputable section

namespace Cert.Knn

open Idealize.ShloMosaic Cert.KernelIdeal Cert.KernelIdeal.Gen

/-- The offsets of a whole rank-three load are zero. -/
theorem zero3 : (![0, 0, 0] : Fin 3 → Nat) = fun _ => 0 := funext fun a => by fin_cases a <;> rfl

/-- The load of the test features reads the whole block. -/
theorem ld_whole0 (x : Vec Ideal S1x16x384 .f32) : View.ld x r0_0 = x := View.ld_unit_zero zero3 _ x

/-- The load of the training features reads the whole block. -/
theorem ld_whole1 (x : Vec Ideal S1x384x500 .f32) : View.ld x r0_1 = x := View.ld_unit_zero zero3 _ x

/-- The load of the labels reads the whole block. -/
theorem ld_whole3 (x : Vec Ideal S1x256x500 .i32) : View.ld x r0_3 = x := View.ld_unit_zero zero3 _ x

/-- A similarity: the inner product of a row of the first block with a column of the second. -/
theorem sims_apply (x0 : Vec Ideal S1x16x384 .f32) (x1 : Vec Ideal S1x384x500 .f32) (i : Fin 16) (l : Fin 500) :
    sims x0 x1 (ix2 i l) = ∑ k : Fin 384, x0 (ix3 0 i k) * x1 (ix3 0 k l) := by
  rw [sims, ld_whole0, ld_whole1]
  pointwise [k0_pay4]

/-- The distances block at an index. -/
theorem out0_4_apply (x0 : Vec Ideal S1x16x384 .f32) (x1 : Vec Ideal S1x384x500 .f32) (x2 : Vec Ideal S1x256x500 .i32)
    (i : Fin 16) (k : Fin 20) :
    out0_4 x0 x1 x2 (ix3 0 i k) = topAt (row (sims x0 x1) i) k.val := by
  rw [out0_4_eq, View.canon_unit_zero zero3]
  pointwise
  exact maxima_apply _ i k

/-- A slice of sixteen label columns, laid out as a slab of tiles, at an index. -/
theorem slab_apply (P : IVec S320x256 32) (off : Nat) (h : S320x256.Slices ![0, off] S320x16)
    (x : S320x1x1x1x1x16.Idx) (ho : off + (x 5).val < 256) :
    shapeCast S320x1x1x1x1x16 (extractStridedSlice S320x16 ![0, off] P h) shapeCasts_S320x16_S320x1x1x1x1x16 x =
      P (ix2 (x 0) ⟨off + (x 5).val, ho⟩) := by
  idx_vars x
  pointwise

/-- The tiles of label columns as one block: row `r` of a tile and its column `q` are label column `16 r + q`. -/
def tiles (P : IVec S320x256 32) : Vec Ideal S320x1x16x1x1x16 .i32 := fun y =>
  P (ix2 (y 0) ⟨16 * (y 2).val + (y 5).val, by have h2 : (y 2).val < 16 := (y 2).isLt; have h5 : (y 5).val < 16 := (y 5).isLt; omega⟩)

/-- The slab stored at tile row `r` is the tile block at that row. -/
theorem slab_eq_tiles (P : IVec S320x256 32) (r : Fin 16) (off : Nat) (e : off = 16 * r.val) (h : S320x256.Slices ![0, off] S320x16)
    (inb : ∀ a, (![0, 0, r.val, 0, 0, 0] : Fin 6 → Nat) a + S320x1x1x1x1x16.size a ≤ S320x1x16x1x1x16.size a)
    (x : (Rect.unit (s := S320x1x16x1x1x16) ![0, 0, r.val, 0, 0, 0] S320x1x1x1x1x16.size inb).shape.Idx) :
    shapeCast S320x1x1x1x1x16 (extractStridedSlice S320x16 ![0, off] P h) shapeCasts_S320x16_S320x1x1x1x1x16 x =
      tiles P ((Rect.unit (s := S320x1x16x1x1x16) ![0, 0, r.val, 0, 0, 0] S320x1x1x1x1x16.size inb).emb x) := by
  have h5 : (x 5).val < 16 := (x 5).isLt
  have h2 : (x 2).val < 1 := (x 2).isLt
  have hr := r.isLt
  rw [slab_apply P off h x (by omega)]
  unfold tiles
  congr 1
  refine congrArg₂ ix2 (Fin.ext ?_) (Fin.ext ?_)
  · show (x 0).val = 0 + 1 * (x 0).val
    omega
  · show off + (x 5).val = 16 * (r.val + 1 * (x 2).val) + (0 + 1 * (x 5).val)
    omega

/-- The labels block is the tile block of the labels at the picked positions. -/
theorem out0_3_eq (x0 : Vec Ideal S1x16x384 .f32) (x1 : Vec Ideal S1x384x500 .f32) (x2 : Vec Ideal S1x256x500 .i32) :
    out0_3 x0 x1 x2 = tiles (k0_pay105 x0 x1 x2) := by
  funext y
  refine View.canon_apply_of_pieces (tiles (k0_pay105 x0 x1 x2)) _ ?_ y (cover0_3 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact slab_eq_tiles (k0_pay105 x0 x1 x2) 15 240 rfl slices_S320x256_o0_240_S320x16 inb_S320x1x16x1x1x16_S320x1x1x1x1x16_0_0_15_0_0_0
  · exact slab_eq_tiles (k0_pay105 x0 x1 x2) 14 224 rfl slices_S320x256_o0_224_S320x16 inb_S320x1x16x1x1x16_S320x1x1x1x1x16_0_0_14_0_0_0
  · exact slab_eq_tiles (k0_pay105 x0 x1 x2) 13 208 rfl slices_S320x256_o0_208_S320x16 inb_S320x1x16x1x1x16_S320x1x1x1x1x16_0_0_13_0_0_0
  · exact slab_eq_tiles (k0_pay105 x0 x1 x2) 12 192 rfl slices_S320x256_o0_192_S320x16 inb_S320x1x16x1x1x16_S320x1x1x1x1x16_0_0_12_0_0_0
  · exact slab_eq_tiles (k0_pay105 x0 x1 x2) 11 176 rfl slices_S320x256_o0_176_S320x16 inb_S320x1x16x1x1x16_S320x1x1x1x1x16_0_0_11_0_0_0
  · exact slab_eq_tiles (k0_pay105 x0 x1 x2) 10 160 rfl slices_S320x256_o0_160_S320x16 inb_S320x1x16x1x1x16_S320x1x1x1x1x16_0_0_10_0_0_0
  · exact slab_eq_tiles (k0_pay105 x0 x1 x2) 9 144 rfl slices_S320x256_o0_144_S320x16 inb_S320x1x16x1x1x16_S320x1x1x1x1x16_0_0_9_0_0_0
  · exact slab_eq_tiles (k0_pay105 x0 x1 x2) 8 128 rfl slices_S320x256_o0_128_S320x16 inb_S320x1x16x1x1x16_S320x1x1x1x1x16_0_0_8_0_0_0
  · exact slab_eq_tiles (k0_pay105 x0 x1 x2) 7 112 rfl slices_S320x256_o0_112_S320x16 inb_S320x1x16x1x1x16_S320x1x1x1x1x16_0_0_7_0_0_0
  · exact slab_eq_tiles (k0_pay105 x0 x1 x2) 6 96 rfl slices_S320x256_o0_96_S320x16 inb_S320x1x16x1x1x16_S320x1x1x1x1x16_0_0_6_0_0_0
  · exact slab_eq_tiles (k0_pay105 x0 x1 x2) 5 80 rfl slices_S320x256_o0_80_S320x16 inb_S320x1x16x1x1x16_S320x1x1x1x1x16_0_0_5_0_0_0
  · exact slab_eq_tiles (k0_pay105 x0 x1 x2) 4 64 rfl slices_S320x256_o0_64_S320x16 inb_S320x1x16x1x1x16_S320x1x1x1x1x16_0_0_4_0_0_0
  · exact slab_eq_tiles (k0_pay105 x0 x1 x2) 3 48 rfl slices_S320x256_o0_48_S320x16 inb_S320x1x16x1x1x16_S320x1x1x1x1x16_0_0_3_0_0_0
  · exact slab_eq_tiles (k0_pay105 x0 x1 x2) 2 32 rfl slices_S320x256_o0_32_S320x16 inb_S320x1x16x1x1x16_S320x1x1x1x1x16_0_0_2_0_0_0
  · exact slab_eq_tiles (k0_pay105 x0 x1 x2) 1 16 rfl slices_S320x256_o0_16_S320x16 inb_S320x1x16x1x1x16_S320x1x1x1x1x16_0_0_1_0_0_0
  · exact slab_eq_tiles (k0_pay105 x0 x1 x2) 0 0 rfl slices_S320x256_o0_0_S320x16 inb_S320x1x16x1x1x16_S320x1x1x1x1x16_0_0_0_0_0_0

end Cert.Knn

end
-- ==== Proof.Arrays.lean ====
/-
  The two result arrays of the kernel's grid after the run, as functions of the arguments: the table of distances, and
  the labels of the picked training patches.
-/
module

public import proofs.«01_k».proof.Proof.Blocks

@[expose] public section

set_option maxRecDepth 16384

noncomputable section

namespace Cert.Knn

open Idealize.ShloMosaic Idealize.ShloMosaic.TcCoe Idealize.SL.Sem
open Idealize.ShloMosaic.Pipeline (Dat)
open Cert.KernelIdeal Cert.KernelIdeal.Gen

/-- The similarities of test image `i`'s patch `p` to the five hundred training patches at that place. -/
def simRow (a0 : FVec Ideal S16x196x384 .f32) (a1 : FVec Ideal S196x384x500 .f32) (i : Fin 16) (p : Fin 196) :
    Fin 500 → EReal :=
  fun l => ∑ k : Fin 384, a0 (ix3 i p k) * a1 (ix3 p k l)

/-- The distances: the similarity of patch `p` of image `i` to its `k`-th nearest training patch. -/
def distances (a0 : FVec Ideal S16x196x384 .f32) (a1 : FVec Ideal S196x384x500 .f32) : FVec Ideal S196x16x20 .f32 :=
  fun y => topAt (simRow a0 a1 (y 1) (y 0)) (y 2).val

/-- The patch at row `r` and column `s` of the fourteen by fourteen grid of patches. -/
def patch (r s : Fin 14) : Fin 196 := ⟨14 * r.val + s.val, by omega⟩

/-- The pixel at row `r` and column `s` of a sixteen by sixteen patch. -/
def pixel (r s : Fin 16) : Fin 256 := ⟨16 * r.val + s.val, by omega⟩

/-- The labels of the picked training patches: at image and rank (in one index), patch row, pixel row, patch column
    and pixel column. -/
def grids (a0 : FVec Ideal S16x196x384 .f32) (a1 : FVec Ideal S196x384x500 .f32) (a2 : IVec S196x256x500 32) :
    IVec S320x14x16x14x1x16 32 :=
  fun y => a2 (ix3 (patch (y 1) (y 3)) (pixel (y 2) (y 5))
    (pickAt (simRow a0 a1 ⟨(y 0).val / 20, by have h : (y 0).val < 320 := (y 0).isLt; omega⟩ (patch (y 1) (y 3))) ((y 0).val % 20)))

variable (m : (ℓ : Loc nD τ sig) → Buf (Elt Ideal) ℓ) (c : Dev nD)

/-- The test features on a device. -/
abbrev arg0 : FVec Ideal S16x196x384 .f32 := m ((c : Thread nD τ).loc main_arg0)
/-- The training features on a device. -/
abbrev arg1 : FVec Ideal S196x384x500 .f32 := m ((c : Thread nD τ).loc main_arg1)
/-- The training labels on a device. -/
abbrev arg2 : IVec S196x256x500 32 := m ((c : Thread nD τ).loc main_arg2)

/-- At the grid's start the transposed test features are in place. -/
theorem V_main_v0 : V m c main_v0 = transpose S196x16x384 [1, 0, 2] (arg0 m c) transposes_S16x196x384_S196x16x384_1_0_2 := by
  show StableHlo.after hostOps0 _ (Proc.devRef .tc main_v0) = _
  after_results

/-- A point of the grid as a patch. -/
def point (t : Fin cfg0.N) : Fin 196 := ⟨t.val, by have h : t.val < cfg0.N := t.isLt; have e : cfg0.N = 196 := N_0; omega⟩

/-- Each point of the grid takes its patch of the test features. -/
theorem index0 : ∀ t : Fin cfg0.N, win0_0.index t = ![t.val, 0, 0] := (by decide +kernel : ∀ t : Fin grid0.N, _)
/-- Each point takes its patch of the training features. -/
theorem index1 : ∀ t : Fin cfg0.N, win0_1.index t = ![t.val, 0, 0] := (by decide +kernel : ∀ t : Fin grid0.N, _)
/-- Each point takes its patch of the training labels. -/
theorem index2 : ∀ t : Fin cfg0.N, win0_2.index t = ![t.val, 0, 0] := (by decide +kernel : ∀ t : Fin grid0.N, _)
/-- Each point writes the labels at its patch's row and column among the patches. -/
theorem index3 : ∀ t : Fin cfg0.N, win0_3.index t = ![0, t.val / 14, 0, t.val % 14, 0, 0] :=
  (by decide +kernel : ∀ t : Fin grid0.N, _)
/-- Each point writes its patch of the distances. -/
theorem index4 : ∀ t : Fin cfg0.N, win0_4.index t = ![t.val, 0, 0] := (by decide +kernel : ∀ t : Fin grid0.N, _)

/-- The first block at a point: the test features of the point's patch. -/
theorem iblk0_apply (t : Fin cfg0.N) (i : Fin 16) (k : Fin 384) :
    (iblk m c 0 t : Vec Ideal S1x16x384 .f32) (ix3 0 i k) = arg0 m c (ix3 i (point t) k) := by
  have h : (iblk m c 0 t : Vec Ideal S1x16x384 .f32) (ix3 0 i k) =
      (V m c main_v0 : FVec Ideal S196x16x384 .f32) ((win0_0.rect t).emb (ix3 0 i k)) := rfl
  have e : (win0_0.rect t).emb (ix3 0 i k) = (ix3 (point t) i k : S196x16x384.Idx) := by
    funext a
    refine Fin.ext ((Pipeline.Window.rect_emb_val win0_0 t _ a).trans ?_)
    rw [index0]
    fin_cases a
    · show t.val * 1 + 0 = t.val
      omega
    · show 0 * 16 + i.val = i.val
      omega
    · show 0 * 384 + k.val = k.val
      omega
  rw [h, e, V_main_v0]
  pointwise

/-- The second block at a point: the training features at the point's patch. -/
theorem iblk1_apply (t : Fin cfg0.N) (k : Fin 384) (l : Fin 500) :
    (iblk m c 1 t : Vec Ideal S1x384x500 .f32) (ix3 0 k l) = arg1 m c (ix3 (point t) k l) := by
  have h : (iblk m c 1 t : Vec Ideal S1x384x500 .f32) (ix3 0 k l) =
      (V m c main_arg1 : FVec Ideal S196x384x500 .f32) ((win0_1.rect t).emb (ix3 0 k l)) := rfl
  have e : (win0_1.rect t).emb (ix3 0 k l) = (ix3 (point t) k l : S196x384x500.Idx) := by
    funext a
    refine Fin.ext ((Pipeline.Window.rect_emb_val win0_1 t _ a).trans ?_)
    rw [index1]
    fin_cases a
    · show t.val * 1 + 0 = t.val
      omega
    · show 0 * 384 + k.val = k.val
      omega
    · show 0 * 500 + l.val = l.val
      omega
  rw [h, e, V_main_arg1]

/-- The third block at a point: the training labels at the point's patch. -/
theorem iblk2_apply (t : Fin cfg0.N) (k : Fin 256) (l : Fin 500) :
    (iblk m c 2 t : Vec Ideal S1x256x500 .i32) (ix3 0 k l) = arg2 m c (ix3 (point t) k l) := by
  have h : (iblk m c 2 t : Vec Ideal S1x256x500 .i32) (ix3 0 k l) =
      (V m c main_arg2 : IVec S196x256x500 32) ((win0_2.rect t).emb (ix3 0 k l)) := rfl
  have e : (win0_2.rect t).emb (ix3 0 k l) = (ix3 (point t) k l : S196x256x500.Idx) := by
    funext a
    refine Fin.ext ((Pipeline.Window.rect_emb_val win0_2 t _ a).trans ?_)
    rw [index2]
    fin_cases a
    · show t.val * 1 + 0 = t.val
      omega
    · show 0 * 256 + k.val = k.val
      omega
    · show 0 * 500 + l.val = l.val
      omega
  rw [h, e, V_main_arg2]

/-- The similarities at a point are those of the point's patch. -/
theorem row_sims (t : Fin cfg0.N) (i : Fin 16) :
    row (sims (iblk m c 0 t) (iblk m c 1 t)) i = simRow (arg0 m c) (arg1 m c) i (point t) := by
  funext l
  refine (sims_apply _ _ i l).trans (Finset.sum_congr rfl fun k _ => ?_)
  rw [iblk0_apply, iblk1_apply]

/-- What a point writes back of the distances is its block of the distances. -/
theorem flushed4 (t : Fin cfg0.N) :
    (dats m 0 c).flushed 4 t = ((cfg0.win 4).blk t).view.read (Elt Ideal) (distances (arg0 m c) (arg1 m c)) := by
  show (cfg0.win 4).cut (grid0.coords t) ((dats m 0 c).after 4 t) = _
  rw [after0_4]
  funext y
  show (out0_4 (iblk m c 0 t) (iblk m c 1 t) (iblk m c 2 t)) y = distances (arg0 m c) (arg1 m c) ((win0_4.rect t).emb y)
  have e : (win0_4.rect t).emb y = (ix3 (point t) (y 1) (y 2) : S196x16x20.Idx) := by
    funext a
    refine Fin.ext ((Pipeline.Window.rect_emb_val win0_4 t _ a).trans ?_)
    rw [index4]
    have h0 : (y 0).val < 1 := (y 0).isLt
    fin_cases a
    · show t.val * 1 + (y 0).val = t.val
      omega
    · show 0 * 16 + (y 1).val = (y 1).val
      omega
    · show 0 * 20 + (y 2).val = (y 2).val
      omega
  have e' : y = (ix3 0 (y 1) (y 2) : S1x16x20.Idx) := by
    funext a
    have h0 : (y 0).val < 1 := (y 0).isLt
    refine Fin.ext ?_
    fin_cases a
    · show (y 0).val = 0
      omega
    · rfl
    · rfl
  rw [e]
  refine (congrArg _ e').trans ((out0_4_apply _ _ _ (y 1) (y 2)).trans ?_)
  exact congrArg (fun s => topAt s (y 2).val) (row_sims m c t (y 1))

/-- What a point writes back of the labels is its block of the labels. -/
theorem flushed3 (t : Fin cfg0.N) :
    (dats m 0 c).flushed 3 t = ((cfg0.win 3).blk t).view.read (Elt Ideal) (grids (arg0 m c) (arg1 m c) (arg2 m c)) := by
  show (cfg0.win 3).cut (grid0.coords t) ((dats m 0 c).after 3 t) = _
  rw [after0_3, out0_3_eq]
  funext y
  show tiles _ y = grids (arg0 m c) (arg1 m c) (arg2 m c) ((win0_3.rect t).emb y)
  have ht : t.val < 196 := (point t).isLt
  have e : (win0_3.rect t).emb y = (ix6 (y 0) ⟨t.val / 14, by omega⟩ (y 2) ⟨t.val % 14, by omega⟩ 0 (y 5) : S320x14x16x14x1x16.Idx) := by
    funext a
    refine Fin.ext ((Pipeline.Window.rect_emb_val win0_3 t _ a).trans ?_)
    rw [index3]
    have h1 : (y 1).val < 1 := (y 1).isLt
    have h3 : (y 3).val < 1 := (y 3).isLt
    have h4 : (y 4).val < 1 := (y 4).isLt
    fin_cases a
    · show 0 * 320 + (y 0).val = (y 0).val
      omega
    · show t.val / 14 * 1 + (y 1).val = t.val / 14
      omega
    · show 0 * 16 + (y 2).val = (y 2).val
      omega
    · show t.val % 14 * 1 + (y 3).val = t.val % 14
      omega
    · show 0 * 1 + (y 4).val = 0
      omega
    · show 0 * 16 + (y 5).val = (y 5).val
      omega
  have hp : patch ⟨t.val / 14, by omega⟩ ⟨t.val % 14, by omega⟩ = point t := by
    refine Fin.ext ?_
    show 14 * (t.val / 14) + t.val % 14 = t.val
    omega
  rw [e]
  refine (pay105_apply _ _ _ _ _).trans ?_
  rw [ld_whole3, row_sims, iblk2_apply]
  show _ = arg2 m c (ix3 (patch ⟨t.val / 14, by omega⟩ ⟨t.val % 14, by omega⟩) _
    (pickAt (simRow _ _ _ (patch ⟨t.val / 14, by omega⟩ ⟨t.val % 14, by omega⟩)) _))
  rw [hp]
  rfl

/-- The blocks of the distances fill them. -/
theorem cover4 (i : S196x16x20.Idx) : ∃ t : Fin cfg0.N, (cfg0.win 4).flush t = true ∧ i ∈ ((cfg0.win 4).blk t).view.set := by
  have h0 : (i 0 : Nat) < 196 := (i 0).isLt
  have h1 : (i 1 : Nat) < 16 := (i 1).isLt
  have h2 : (i 2 : Nat) < 20 := (i 2).isLt
  have hN : cfg0.N = 196 := N_0
  obtain ⟨t, ht⟩ : ∃ t : Fin cfg0.N, t.val = (i 0).val := ⟨⟨(i 0).val, by omega⟩, rfl⟩
  refine ⟨t, flush0_4 _, ?_⟩
  show i ∈ ((View.whole main_v1_1).slice (win0_4.rect t)).set
  rw [View.set_slice_whole, Rect.mem_set_unit]
  intro a
  show win0_4.index t a * win0_4.size a ≤ (i a).val ∧ (i a).val < win0_4.index t a * win0_4.size a + win0_4.xsize (grid0.coords t) a
  rw [index4]
  fin_cases a
  · show t.val * 1 ≤ (i 0).val ∧ (i 0).val < t.val * 1 + 1
    omega
  · show 0 * 16 ≤ (i 1).val ∧ (i 1).val < 0 * 16 + 16
    omega
  · show 0 * 20 ≤ (i 2).val ∧ (i 2).val < 0 * 20 + 20
    omega

/-- The blocks of the labels fill them. -/
theorem cover3 (i : S320x14x16x14x1x16.Idx) :
    ∃ t : Fin cfg0.N, (cfg0.win 3).flush t = true ∧ i ∈ ((cfg0.win 3).blk t).view.set := by
  have h0 : (i 0 : Nat) < 320 := (i 0).isLt
  have h1 : (i 1 : Nat) < 14 := (i 1).isLt
  have h2 : (i 2 : Nat) < 16 := (i 2).isLt
  have h3 : (i 3 : Nat) < 14 := (i 3).isLt
  have h4 : (i 4 : Nat) < 1 := (i 4).isLt
  have h5 : (i 5 : Nat) < 16 := (i 5).isLt
  have hN : cfg0.N = 196 := N_0
  obtain ⟨t, ht⟩ : ∃ t : Fin cfg0.N, t.val = 14 * (i 1).val + (i 3).val := ⟨⟨14 * (i 1).val + (i 3).val, by omega⟩, rfl⟩
  refine ⟨t, flush0_3 _, ?_⟩
  show i ∈ ((View.whole main_v1_0).slice (win0_3.rect t)).set
  rw [View.set_slice_whole, Rect.mem_set_unit]
  intro a
  show win0_3.index t a * win0_3.size a ≤ (i a).val ∧ (i a).val < win0_3.index t a * win0_3.size a + win0_3.xsize (grid0.coords t) a
  rw [index3]
  fin_cases a
  · show 0 * 320 ≤ (i 0).val ∧ (i 0).val < 0 * 320 + 320
    omega
  · show t.val / 14 * 1 ≤ (i 1).val ∧ (i 1).val < t.val / 14 * 1 + 1
    omega
  · show 0 * 16 ≤ (i 2).val ∧ (i 2).val < 0 * 16 + 16
    omega
  · show t.val % 14 * 1 ≤ (i 3).val ∧ (i 3).val < t.val % 14 * 1 + 1
    omega
  · show 0 * 1 ≤ (i 4).val ∧ (i 4).val < 0 * 1 + 1
    omega
  · show 0 * 16 ≤ (i 5).val ∧ (i 5).val < 0 * 16 + 16
    omega

/-- After the grid the labels array holds the labels of the picked training patches. -/
theorem final3 : (dats m 0 c).arrAt 3 cfg0.N = grids (arg0 m c) (arg1 m c) (arg2 m c) :=
  (dats m 0 c).arrAt_eq_of_cover 3 _ (fun t _ => flushed3 m c t) cover3

/-- After the grid the distances array holds the distances. -/
theorem final4 : (dats m 0 c).arrAt 4 cfg0.N = distances (arg0 m c) (arg1 m c) :=
  (dats m 0 c).arrAt_eq_of_cover 4 _ (fun t _ => flushed4 m c t) cover4

end Cert.Knn

end
-- ==== Proof.Result.lean ====
/-
  The kernel's two results as functions of its arguments: the maps of retrieved labels and the table of distances.
-/
module

public import proofs.«01_k».proof.Proof.Arrays
public import Idealize.ShloMosaic.Lib.StableHlo.Run
public import Idealize.ShloMosaic.Lib.ValueIdxRank6

@[expose] public section

set_option maxRecDepth 16384

noncomputable section

namespace Cert.Knn

open Idealize.ShloMosaic Idealize.ShloMosaic.TcCoe Idealize.SL.Sem
open Idealize.ShloMosaic.Pipeline (Dat)
open Cert.KernelIdeal Cert.KernelIdeal.Gen

/-- The patch row (or column) an image row (or column) lies in. -/
def coarse (y : Fin 224) : Fin 14 := ⟨y.val / 16, by omega⟩

/-- The place of an image row (or column) in its patch. -/
def fine (y : Fin 224) : Fin 16 := ⟨y.val % 16, by omega⟩

/-- The retrieved label of rank `k` for image `i` at row `y` and column `x`: the label, at the pixel's place in its
    patch, of the training patch that is `k`-th nearest to the image's patch there. -/
def labelAt (a0 : FVec Ideal S16x196x384 .f32) (a1 : FVec Ideal S196x384x500 .f32) (a2 : IVec S196x256x500 32)
    (i : Fin 16) (k : Fin 20) (y x : Fin 224) : BitVec 32 :=
  a2 (ix3 (patch (coarse y) (coarse x)) (pixel (fine y) (fine x))
    (pickAt (simRow a0 a1 i (patch (coarse y) (coarse x))) k.val))

/-- The maps of retrieved labels, one for every image and rank. -/
def labelMaps (a0 : FVec Ideal S16x196x384 .f32) (a1 : FVec Ideal S196x384x500 .f32) (a2 : IVec S196x256x500 32) :
    IVec S16x20x224x224 32 :=
  fun z => labelAt a0 a1 a2 (z 0) (z 1) (z 2) (z 3)

/-- The table of distances, by image, patch and rank. -/
def distTable (a0 : FVec Ideal S16x196x384 .f32) (a1 : FVec Ideal S196x384x500 .f32) : FVec Ideal S16x196x20 .f32 :=
  fun z => topAt (simRow a0 a1 (z 0) (z 1)) (z 2).val

/-- The labels array, reshaped to images, is the label maps. -/
theorem shapeCast_grids (a0 : FVec Ideal S16x196x384 .f32) (a1 : FVec Ideal S196x384x500 .f32) (a2 : IVec S196x256x500 32) :
    shapeCast S16x20x224x224 (grids a0 a1 a2) shapeCasts_S320x14x16x14x1x16_S16x20x224x224 = labelMaps a0 a1 a2 := by
  funext z
  have h0 : (z 0).val < 16 := (z 0).isLt
  have h1 : (z 1).val < 20 := (z 1).isLt
  have h2 : (z 2).val < 224 := (z 2).isLt
  have h3 : (z 3).val < 224 := (z 3).isLt
  refine (shapeCast_apply _ _ z (ix6 ⟨20 * (z 0).val + (z 1).val, by omega⟩ (coarse (z 2)) (fine (z 2)) (coarse (z 3)) 0 (fine (z 3))) ?_).trans ?_
  · rw [Shape.rowMajor_val_six, Shape.rowMajor_val_four]
    show (((((20 * (z 0).val + (z 1).val) * 14 + (z 2).val / 16) * 16 + (z 2).val % 16) * 14 + (z 3).val / 16) * 1 + 0) * 16 + (z 3).val % 16 =
      (((z 0).val * 20 + (z 1).val) * 224 + (z 2).val) * 224 + (z 3).val
    omega
  · have e0 : (⟨(20 * (z 0).val + (z 1).val) / 20, by omega⟩ : Fin 16) = z 0 := Fin.ext (by show (20 * (z 0).val + (z 1).val) / 20 = _; omega)
    have e1 : (20 * (z 0).val + (z 1).val) % 20 = (z 1).val := by omega
    show a2 (ix3 _ _ (pickAt (simRow a0 a1 ⟨(20 * (z 0).val + (z 1).val) / 20, _⟩ _) ((20 * (z 0).val + (z 1).val) % 20))) = _
    rw [e0, e1]
    rfl

/-- The transposed distances array is the table of distances. -/
theorem transpose_distances (a0 : FVec Ideal S16x196x384 .f32) (a1 : FVec Ideal S196x384x500 .f32) :
    transpose S16x196x20 [1, 0, 2] (distances a0 a1) transposes_S196x16x20_S16x196x20_1_0_2 = distTable a0 a1 := by
  funext z
  idx_vars z
  pointwise
  rfl

variable (m : (ℓ : Loc nD τ sig) → Buf (Elt Ideal) ℓ) (ρ : Dev nD → PrngReg) (c : Dev nD)

/-- The grid's arrays are different buffers. -/
theorem arrRef_injective : Function.Injective (Pipeline.arrRef spec0) := by decide

/-- After the host operations behind the grid, the first result is the label maps. -/
theorem W_main_v2 : Pipeline.afterTail₀ cfgs (dats m) 0 (V0 m) [hostOps1] c main_v2 = labelMaps (arg0 m c) (arg1 m c) (arg2 m c) := by
  show StableHlo.after hostOps1 (Pipeline.withArrays spec0 c (V0 m c) fun w => (dats m 0 c).arrAt w cfg0.N) (Proc.devRef .tc main_v2) = _
  after_results
  have h := Pipeline.withArrays_arr spec0 arrRef_injective c (V0 m c) (fun w => (dats m 0 c).arrAt w cfg0.N) 3
  have h' := h.trans (final3 m c)
  exact (congrArg (fun x => shapeCast S16x20x224x224 x shapeCasts_S320x14x16x14x1x16_S16x20x224x224) h').trans (shapeCast_grids _ _ _)

/-- After the host operations behind the grid, the second result is the table of distances. -/
theorem W_main_v3 : Pipeline.afterTail₀ cfgs (dats m) 0 (V0 m) [hostOps1] c main_v3 = distTable (arg0 m c) (arg1 m c) := by
  show StableHlo.after hostOps1 (Pipeline.withArrays spec0 c (V0 m c) fun w => (dats m 0 c).arrAt w cfg0.N) (Proc.devRef .tc main_v3) = _
  after_results
  have h := Pipeline.withArrays_arr spec0 arrRef_injective c (V0 m c) (fun w => (dats m 0 c).arrAt w cfg0.N) 4
  have h' := h.trans (final4 m c)
  exact (congrArg (fun x => transpose S16x196x20 [1, 0, 2] x transposes_S196x16x20_S16x196x20_1_0_2) h').trans (transpose_distances _ _)

/-- Every run of the kernel ends with the label maps and the table of distances of its arguments, which are unchanged. -/
theorem kernel_run : θ_run defs (onTc (τ := τ) (main (F := Ideal))) ⟨m, fun _ => 0, ρ⟩ fun r => ∀ c : Dev nD,
      r.2.mem ((c : Thread nD τ).loc main_v2) = labelMaps (arg0 m c) (arg1 m c) (arg2 m c)
      ∧ r.2.mem ((c : Thread nD τ).loc main_v3) = distTable (arg0 m c) (arg1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h.1 c).2 main_v2 (Pipeline.mem_restRefs_of main_v2 (by decide) (by decide))).trans (W_main_v2 m c),
        ((h.1 c).2 main_v3 (Pipeline.mem_restRefs_of main_v3 (by decide) (by decide))).trans (W_main_v3 m c), h.2 c⟩)
    (θ_run_and (run_main m ρ) (unchanged m ρ))

end Cert.Knn

end
-- ==== Proof.Host.lean ====
/-
  The reference's sort, read at an index: under scores that are all above `-∞`, the first twenty positions a stable sort
  by descending score reads are the positions picked one round at a time.
-/
module

public import proofs.«01_k».proof.Proof.Result
public import proofs.«01_k».proof.Proof.Gen.ReferenceIdeal.Read

@[expose] public section

set_option maxRecDepth 16384

noncomputable section

namespace Cert.Knn

open Idealize.ShloMosaic Idealize.ShloMosaic.TcCoe Idealize.SL.Sem
open Cert.ReferenceIdeal Cert.ReferenceIdeal.Gen Cert.ReferenceIdeal.Read

/-- The comparison the reference sorts by: the left is above the right. -/
theorem total_gt (a b : EReal) : (FloatOps.cmpfTotal (F := Ideal) (φ := .f32) .gt a b == 1#1) = decide (b < a) := by
  show (BitVec.ofBool (decide (b < a)) == 1#1) = decide (b < a)
  by_cases h : b < a <;> simp [h]

/-- An index of the score table, moved along the scores' axis. -/
theorem along2 (hd : 2 < S16x196x500.rank) (i : Fin 16) (p : Fin 196) (l q : Fin 500) :
    Shape.Idx.along (s := S16x196x500) (ix3 i p l) ⟨2, hd⟩ q = ix3 i p q := by
  funext a
  fin_cases a <;> rfl

/-- A rank below twenty as a place among the five hundred. -/
abbrev rank (k : Fin 20) : Fin 500 := k.castLE (by decide)

/-- The order the reference sorts a row by. -/
abbrev order (x : FVec Ideal S16x196x500 .f32) (i : Fin 16) (p : Fin 196) (a b : Fin 500) : Bool :=
  FloatOps.cmpfTotal (F := Ideal) (φ := .f32) .gt (x (ix3 i p a)) (x (ix3 i p b)) == 1#1

/-- The sorted scores, read at an index. -/
theorem sort_fst (x : FVec Ideal S16x196x500 .f32) (y : IVec S16x196x500 32) (i : Fin 16) (p : Fin 196) (l : Fin 500) :
    (Host.sort2 S16x196x500 2 (fun a b => FloatOps.cmpfTotal (F := Ideal) (φ := .f32) .gt a.1 b.1) x y).1 (ix3 i p l) =
      x (ix3 i p (sortedFrom (order x i p) l)) := by
  have hd : 2 < S16x196x500.rank := by decide
  unfold Host.sort2
  rw [dif_pos hd]
  have e : (fun a b : Fin 500 => FloatOps.cmpfTotal (F := Ideal) (φ := .f32) .gt
      (x (Shape.Idx.along (s := S16x196x500) (ix3 i p l) ⟨2, hd⟩ a)) (x (Shape.Idx.along (s := S16x196x500) (ix3 i p l) ⟨2, hd⟩ b)) == 1#1) = order x i p := by
    funext a b
    rw [along2, along2]
  exact (congrArg x (along2 hd i p l _)).trans (congrArg (fun f => x (ix3 i p (sortedFrom f l))) e)

/-- The positions carried by the sort, read at an index. -/
theorem sort_snd (x : FVec Ideal S16x196x500 .f32) (y : IVec S16x196x500 32) (i : Fin 16) (p : Fin 196) (l : Fin 500) :
    (Host.sort2 S16x196x500 2 (fun a b => FloatOps.cmpfTotal (F := Ideal) (φ := .f32) .gt a.1 b.1) x y).2 (ix3 i p l) =
      y (ix3 i p (sortedFrom (order x i p) l)) := by
  have hd : 2 < S16x196x500.rank := by decide
  unfold Host.sort2
  rw [dif_pos hd]
  have e : (fun a b : Fin 500 => FloatOps.cmpfTotal (F := Ideal) (φ := .f32) .gt
      (x (Shape.Idx.along (s := S16x196x500) (ix3 i p l) ⟨2, hd⟩ a)) (x (Shape.Idx.along (s := S16x196x500) (ix3 i p l) ⟨2, hd⟩ b)) == 1#1) = order x i p := by
    funext a b
    rw [along2, along2]
  exact (congrArg y (along2 hd i p l _)).trans (congrArg (fun f => y (ix3 i p (sortedFrom f l))) e)

/-- The first twenty of a row of five hundred. -/
theorem head_apply {α : Type} (w : S16x196x500.Idx → α) (i : Fin 16) (p : Fin 196) (k : Fin 20) :
    extractStridedSlice S16x196x20 (fun _ => 0) w sliceFits_S16x196x500_S16x196x20 (ix3 i p k) = w (ix3 i p (rank k)) := by
  pointwise
  rfl

/-- The position at a rank is the one picked in that round. -/
theorem sorted_rank (x : FVec Ideal S16x196x500 .f32) (i : Fin 16) (p : Fin 196) (hx : ∀ l, x (ix3 i p l) ≠ ⊥) (k : Fin 20) :
    sortedFrom (order x i p) (rank k) = pickAt (fun l => x (ix3 i p l)) k.val :=
  sortedFrom_eq_pickAt (fun l => x (ix3 i p l)) hx (order x i p) (fun a b => total_gt _ _) (by decide) k

/-- The table of positions the sort carries. -/
def places : IVec S16x196x500 32 := fun i => if hd : 2 < S16x196x500.rank then iotaInDim S16x196x500 32 ⟨2, hd⟩ i else 0#32

/-- The first twenty scores of every sorted row. -/
theorem topK_values (x : FVec Ideal S16x196x500 .f32) (i : Fin 16) (p : Fin 196) (hx : ∀ l, x (ix3 i p l) ≠ ⊥) (k : Fin 20) :
    (Host.topK S16x196x20 2 (FloatOps.cmpfTotal .gt) x sliceFits_S16x196x500_S16x196x20).1 (ix3 i p k) =
      topAt (fun l => x (ix3 i p l)) k.val := by
  show extractStridedSlice S16x196x20 (fun _ => 0)
    (Host.sort2 S16x196x500 2 (fun a b => FloatOps.cmpfTotal (F := Ideal) (φ := .f32) .gt a.1 b.1) x places).1
    sliceFits_S16x196x500_S16x196x20 (ix3 i p k) = _
  rw [head_apply, sort_fst]
  rw [sorted_rank x i p hx k]
  exact apply_pickAt (fun l => x (ix3 i p l)) hx (r := k.val) (by omega)

/-- The first twenty positions of every sorted row. -/
theorem topK_indices (x : FVec Ideal S16x196x500 .f32) (i : Fin 16) (p : Fin 196) (hx : ∀ l, x (ix3 i p l) ≠ ⊥) (k : Fin 20) :
    (Host.topK S16x196x20 2 (FloatOps.cmpfTotal .gt) x sliceFits_S16x196x500_S16x196x20).2 (ix3 i p k) =
      BitVec.ofNat 32 (pickAt (fun l => x (ix3 i p l)) k.val).val := by
  show extractStridedSlice S16x196x20 (fun _ => 0)
    (Host.sort2 S16x196x500 2 (fun a b => FloatOps.cmpfTotal (F := Ideal) (φ := .f32) .gt a.1 b.1) x places).2
    sliceFits_S16x196x500_S16x196x20 (ix3 i p k) = _
  rw [head_apply, sort_snd]
  rw [sorted_rank x i p hx k]
  rfl

end Cert.Knn

end
-- ==== Proof.Reference.lean ====
/-
  The reference's two results, read as the same functions of the arguments as the kernel's.
-/
module

public import proofs.«01_k».proof.Proof.Host
public import Idealize.ShloMosaic.Lib.ReduceAll
public import Idealize.ShloMosaic.Lib.ValueIdxRank6

@[expose] public section

set_option maxRecDepth 16384

noncomputable section

namespace Cert.Knn

open Idealize.ShloMosaic Idealize.ShloMosaic.TcCoe Idealize.SL.Sem
open Cert.ReferenceIdeal Cert.ReferenceIdeal.Gen Cert.ReferenceIdeal.Read

variable (x0 : FVec Ideal S16x196x384 .f32) (x1 : FVec Ideal S196x384x500 .f32) (x2 : IVec S196x256x500 32)

/-- The reference's score table holds the similarities. -/
theorem scores_apply (i : Fin 16) (p : Fin 196) (l : Fin 500) : val_main_v1 (F := Ideal) x0 x1 (ix3 i p l) = simRow x0 x1 i p l := by
  rw [val_main_v1_apply, val_main_v0_apply]
  refine Finset.sum_congr rfl fun k _ => ?_
  have e1 : lidx_main_v0 (idx_main_v1 (ix3 i p l)) k = (ix3 p k l : S196x384x500.Idx) := by
    funext a
    fin_cases a <;> rfl
  have e0 : ridx_main_v0 (idx_main_v1 (ix3 i p l)) k = (ix3 i p k : S16x196x384.Idx) := by
    funext a
    fin_cases a <;> rfl
  rw [e1, e0]
  exact mul_comm _ _

/-- A row of the score table. -/
theorem scores_row (i : Fin 16) (p : Fin 196) : (fun l => val_main_v1 (F := Ideal) x0 x1 (ix3 i p l)) = simRow x0 x1 i p :=
  funext fun l => scores_apply x0 x1 i p l

variable (hx : ∀ i p l, simRow x0 x1 i p l ≠ ⊥)
include hx

/-- The reference's distances are the table of distances. -/
theorem values_eq : val_main_values (F := Ideal) x0 x1 = distTable x0 x1 := by
  funext z
  obtain ⟨i, p, k, rfl⟩ : ∃ (i : Fin 16) (p : Fin 196) (k : Fin 20), z = ix3 i p k :=
    ⟨z 0, z 1, z 2, by funext a; fin_cases a <;> rfl⟩
  refine (topK_values _ i p (fun l => by rw [scores_apply]; exact hx i p l) k).trans ?_
  rw [scores_row]
  rfl

/-- The reference's positions are the picked ones. -/
theorem positions_apply (i : Fin 16) (p : Fin 196) (k : Fin 20) :
    val_main_indices (F := Ideal) x0 x1 (ix3 i p k) = BitVec.ofNat 32 (pickAt (simRow x0 x1 i p) k.val).val := by
  refine (topK_indices _ i p (fun l => by rw [scores_apply]; exact hx i p l) k).trans ?_
  rw [scores_row]

omit hx in
/-- A word below five hundred reads as itself. -/
theorem toInt_lane (l : Fin 500) : (BitVec.ofNat 32 l.val).toInt = l.val := toInt_small (by omega)

/-- The positions are not negative, so the wrapped positions are the positions. -/
theorem wrapped_apply (z : S16x196x256x20.Idx) :
    val_main_call0_v4 (F := Ideal) x0 x1 z = BitVec.ofNat 32 (pickAt (simRow x0 x1 (z 0) (z 1)) (z 3).val).val := by
  have e3 : val_main_v3 (F := Ideal) x0 x1 z = BitVec.ofNat 32 (pickAt (simRow x0 x1 (z 0) (z 1)) (z 3).val).val := by
    rw [val_main_v3_apply, val_main_v2_apply]
    have e : idx_main_v2 (idx_main_v3 z) = (ix3 (z 0) (z 1) (z 3) : S16x196x20.Idx) := by
      funext a
      fin_cases a <;> rfl
    rw [e]
    exact positions_apply x0 x1 hx (z 0) (z 1) (z 3)
  rw [val_main_call0_v4_apply, val_main_call0_v1_apply, val_main_call0_v0_apply, val_main_call0_c_apply, e3]
  have hn : IntOp.cmpi .slt (BitVec.ofNat 32 (pickAt (simRow x0 x1 (z 0) (z 1)) (z 3).val).val) 0#32 ≠ 1#1 := by
    rw [Ne, IntOp.cmpi_slt, toInt_lane]
    show ¬ _ < (0 : Int)
    omega
  exact if_neg hn

/-- Every position is in range. -/
theorem inRange_apply (y : S16x196x256x20x1.Idx) : val_main_call0_v11 (F := Ideal) x0 x1 y = 1#1 := by
  rw [val_main_call0_v11_apply, val_main_call0_v7_apply, val_main_call0_v10_apply, val_main_call0_v5_apply, wrapped_apply x0 x1 hx,
    val_main_call0_v6_apply, val_main_call0_c_2_apply, val_main_call0_v9_apply, val_main_call0_v8_apply, val_main_call0_c_1_apply]
  refine IntOp.andi_eq_one.2 ⟨IntOp.cmpi_sge.2 ?_, IntOp.cmpi_sle.2 ?_⟩
  · rw [toInt_lane]
    show (0 : Int) ≤ _
    omega
  · rw [toInt_lane]
    show _ ≤ (499 : Int)
    omega

/-- The position read by the gather at an index. -/
theorem start_apply (z : S16x196x256x20.Idx) :
    val_main_call0_v5 (F := Ideal) x0 x1 (ix5 (z 0) (z 1) (z 2) (z 3) 0) =
      BitVec.ofNat 32 (pickAt (simRow x0 x1 (z 0) (z 1)) (z 3).val).val := by
  rw [← wrapped_apply x0 x1 hx z]
  refine shapeCast_apply _ _ _ z ?_
  rw [Shape.rowMajor_val_four, Shape.rowMajor_val_five]
  show ((((z 0).val * 196 + (z 1).val) * 256 + (z 2).val) * 20 + (z 3).val) =
    (((((z 0).val * 196 + (z 1).val) * 256 + (z 2).val) * 20 + (z 3).val) * 1 + 0)
  omega

omit hx in
/-- On the axes of image, patch and pixel the gather reads at the result's own coordinate. -/
theorem operand_batch (z : S16x196x256x20.Idx) (t : IVec S16x196x256x20x1 32) :
    ∀ a : Fin 3, (gather_S16x196x256x500_S16x196x256x20x1_S16x196x256x20_n_3_012_012_3_4_1111.operandIdx z t a.castSucc).val = (z a.castSucc).val := by
  intro a
  have hb : ∀ b : Fin 3, b.castSucc ∈ (gather_S16x196x256x500_S16x196x256x20x1_S16x196x256x20_n_3_012_012_3_4_1111).operandBatchingDims := by decide
  show (gather_S16x196x256x500_S16x196x256x20x1_S16x196x256x20_n_3_012_012_3_4_1111).start z t a.castSucc + (gather_S16x196x256x500_S16x196x256x20x1_S16x196x256x20_n_3_012_012_3_4_1111).batchCoord z a.castSucc + (gather_S16x196x256x500_S16x196x256x20x1_S16x196x256x20_n_3_012_012_3_4_1111).offCoord z a.castSucc = _
  rw [GatherDims.start_batching _ _ _ _ (hb a),
    GatherDims.offCoord_eq_zero _ _ _ (fun h => ((GatherDims.mem_sKept _ _).mp h).2 (hb a))]
  simp only [Nat.zero_add, Nat.add_zero]
  unfold GatherDims.batchCoord
  rw [dif_pos (hb a)]
  fin_cases a <;> rfl

omit hx in
/-- On the axis of training patches the gather reads at the start index, kept in range. -/
theorem operand_take (z : S16x196x256x20.Idx) (t : IVec S16x196x256x20x1 32) :
    (gather_S16x196x256x500_S16x196x256x20x1_S16x196x256x20_n_3_012_012_3_4_1111.operandIdx z t 3).val = min (t (ix5 (z 0) (z 1) (z 2) (z 3) 0)).toInt.toNat 499 := by
  have hm : (3 : Fin 4) ∈ (gather_S16x196x256x500_S16x196x256x20x1_S16x196x256x20_n_3_012_012_3_4_1111).startIndexMap := by decide
  have hc : (3 : Fin 4) ∈ (gather_S16x196x256x500_S16x196x256x20x1_S16x196x256x20_n_3_012_012_3_4_1111).collapsedSliceDims := by decide
  have hn : (3 : Fin 4) ∉ (gather_S16x196x256x500_S16x196x256x20x1_S16x196x256x20_n_3_012_012_3_4_1111).operandBatchingDims := by decide
  show (gather_S16x196x256x500_S16x196x256x20x1_S16x196x256x20_n_3_012_012_3_4_1111).start z t 3 + (gather_S16x196x256x500_S16x196x256x20x1_S16x196x256x20_n_3_012_012_3_4_1111).batchCoord z 3 + (gather_S16x196x256x500_S16x196x256x20x1_S16x196x256x20_n_3_012_012_3_4_1111).offCoord z 3 = _
  rw [GatherDims.batchCoord_eq_zero _ _ _ hn,
    GatherDims.offCoord_eq_zero _ _ _ (fun h => ((GatherDims.mem_sKept _ _).mp h).1 hc)]
  simp only [Nat.add_zero]
  unfold GatherDims.start
  rw [dif_pos hm]
  have hsi : (gather_S16x196x256x500_S16x196x256x20x1_S16x196x256x20_n_3_012_012_3_4_1111).siIdx z ⟨List.idxOf (3 : Fin 4) (gather_S16x196x256x500_S16x196x256x20x1_S16x196x256x20_n_3_012_012_3_4_1111).startIndexMap,
      List.idxOf_lt_length_iff.2 hm⟩ = (ix5 (z 0) (z 1) (z 2) (z 3) 0 : S16x196x256x20x1.Idx) := by
    funext b
    refine Fin.ext ?_
    match b with
    | ⟨0, _⟩ => rfl
    | ⟨1, _⟩ => rfl
    | ⟨2, _⟩ => rfl
    | ⟨3, _⟩ => rfl
    | ⟨4, _⟩ => rfl
  rw [hsi]
  rfl

/-- The gathered label at an index: the label of the picked training patch. -/
theorem gathered_apply (z : S16x196x256x20.Idx) :
    val_main_call0_v13 (F := Ideal) x0 x1 x2 z = x2 (ix3 (z 1) (z 2) (pickAt (simRow x0 x1 (z 0) (z 1)) (z 3).val)) := by
  have e : (gather_S16x196x256x500_S16x196x256x20x1_S16x196x256x20_n_3_012_012_3_4_1111).operandIdx z (val_main_call0_v5 (F := Ideal) x0 x1) =
      (ix4 (z 0) (z 1) (z 2) (pickAt (simRow x0 x1 (z 0) (z 1)) (z 3).val) : S16x196x256x500.Idx) := by
    funext a
    refine Fin.ext ?_
    match a with
    | ⟨0, _⟩ => exact operand_batch z _ 0
    | ⟨1, _⟩ => exact operand_batch z _ 1
    | ⟨2, _⟩ => exact operand_batch z _ 2
    | ⟨3, _⟩ =>
      refine (operand_take z _).trans ?_
      rw [start_apply x0 x1 hx, toInt_lane]
      show min (Int.toNat ((pickAt (simRow x0 x1 (z 0) (z 1)) (z 3).val).val : Int)) 499 = (pickAt (simRow x0 x1 (z 0) (z 1)) (z 3).val).val
      omega
  unfold val_main_call0_v13 Host.gather
  rw [e, val_main_v5_apply, val_main_v4_apply]
  congr 1
  funext a
  fin_cases a <;> rfl

/-- The retrieved labels before they are laid out as images. -/
theorem retrieved_apply (z : S16x196x256x20.Idx) :
    val_main_v6 (F := Ideal) x0 x1 x2 z = x2 (ix3 (z 1) (z 2) (pickAt (simRow x0 x1 (z 0) (z 1)) (z 3).val)) := by
  rw [val_main_v6_apply]
  have e : val_main_call0_v12 (F := Ideal) x0 x1 z = 1#1 :=
    Host.reduce_andi_one _ _ _ _ z rfl (inRange_apply x0 x1 hx)
  rw [e, gathered_apply x0 x1 x2 hx]
  rfl

/-- The retrieved labels with the pixel axis split into rows and columns. -/
theorem pixels_apply (i : Fin 16) (p : Fin 196) (k : Fin 20) (a b : Fin 16) :
    val_main_v8 (F := Ideal) x0 x1 x2 (ix5 i p k a b) = x2 (ix3 p (pixel a b) (pickAt (simRow x0 x1 i p) k.val)) := by
  have e : val_main_v8 (F := Ideal) x0 x1 x2 (ix5 i p k a b) = val_main_v7 (F := Ideal) x0 x1 x2 (ix4 i p k (pixel a b)) := by
    unfold val_main_v8
    refine shapeCast_apply _ _ _ (ix4 i p k (pixel a b)) ?_
    rw [Shape.rowMajor_val_four, Shape.rowMajor_val_five]
    show ((i.val * 196 + p.val) * 20 + k.val) * 256 + (16 * a.val + b.val) =
      (((i.val * 196 + p.val) * 20 + k.val) * 16 + a.val) * 16 + b.val
    omega
  have e' : idx_main_v7 (ix4 i p k (pixel a b)) = (ix4 i p (pixel a b) k : S16x196x256x20.Idx) := by
    funext a
    fin_cases a <;> rfl
  rw [e, val_main_v7_apply, e']
  exact retrieved_apply x0 x1 x2 hx (ix4 i p (pixel a b) k)

/-- The same with the patch axis split into rows and columns, and the ranks in front. -/
theorem mosaic_apply (i : Fin 16) (k : Fin 20) (r : Fin 14) (a : Fin 16) (s : Fin 14) (b : Fin 16) :
    val_main_v10 (F := Ideal) x0 x1 x2 (ix6 i k r a s b) =
      x2 (ix3 (patch r s) (pixel a b) (pickAt (simRow x0 x1 i (patch r s)) k.val)) := by
  have e' : idx_main_v10 (ix6 i k r a s b) = (ix6 i r s k a b : S16x14x14x20x16x16.Idx) := by
    funext a
    fin_cases a <;> rfl
  have e : val_main_v9 (F := Ideal) x0 x1 x2 (ix6 i r s k a b) = val_main_v8 (F := Ideal) x0 x1 x2 (ix5 i (patch r s) k a b) := by
    unfold val_main_v9
    refine shapeCast_apply _ _ _ (ix5 i (patch r s) k a b) ?_
    rw [Shape.rowMajor_val_six, Shape.rowMajor_val_five]
    show (((i.val * 196 + (14 * r.val + s.val)) * 20 + k.val) * 16 + a.val) * 16 + b.val =
      ((((i.val * 14 + r.val) * 14 + s.val) * 20 + k.val) * 16 + a.val) * 16 + b.val
    omega
  rw [val_main_v10_apply, e', e]
  exact pixels_apply x0 x1 x2 hx i (patch r s) k a b

/-- The reference's maps are the label maps. -/
theorem maps_eq : val_main_v11 (F := Ideal) x0 x1 x2 = labelMaps x0 x1 x2 := by
  funext z
  have h0 : (z 0).val < 16 := (z 0).isLt
  have h1 : (z 1).val < 20 := (z 1).isLt
  have h2 : (z 2).val < 224 := (z 2).isLt
  have h3 : (z 3).val < 224 := (z 3).isLt
  unfold val_main_v11
  refine (shapeCast_apply _ _ z (ix6 (z 0) (z 1) (coarse (z 2)) (fine (z 2)) (coarse (z 3)) (fine (z 3))) ?_).trans ?_
  · rw [Shape.rowMajor_val_six, Shape.rowMajor_val_four]
    show ((((((z 0).val * 20 + (z 1).val) * 14 + (z 2).val / 16) * 16 + (z 2).val % 16) * 14 + (z 3).val / 16) * 16 + (z 3).val % 16) =
      (((z 0).val * 20 + (z 1).val) * 224 + (z 2).val) * 224 + (z 3).val
    omega
  exact mosaic_apply x0 x1 x2 hx (z 0) (z 1) (coarse (z 2)) (fine (z 2)) (coarse (z 3)) (fine (z 3))

end Cert.Knn

end
-- ==== Proof.Finite.lean ====
/-
  What the precondition gives: every feature is a real number, so no similarity is minus infinity.
-/
module

public import proofs.«01_k».proof.Proof.Arrays
public import proofs.«01_k».proof.Proof.Gen.Pre_finite
public import Idealize.ShloMosaic.Lib.ReduceAll

@[expose] public section

noncomputable section

namespace Cert.Knn

open Idealize.ShloMosaic Cert.KernelIdeal

/-- A value whose absolute value is below infinity is a real number. -/
theorem real_of_abs (x : EReal) (h : max x (-x) < ⊤) : ∃ r : ℝ, x = (r : EReal) := by
  refine ⟨x.toReal, (EReal.coe_toReal ?_ ?_).symm⟩
  · rintro rfl
    simp at h
  · rintro rfl
    simp at h

/-- A value the comparison finds below infinity in absolute value is a real number. -/
theorem real_of_below (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have ht : (FloatOps.ofBits (F := Ideal) .f32 0x7F800000#32 : EReal) = ⊤ := by
    simp [FloatOps.ofBits, Ideal.ofBits, Ideal.ieee]
  rw [ht] at h
  have h' : BitVec.ofBool (decide (max x (-x) < ⊤)) = 1#1 := h
  refine real_of_abs x ?_
  by_contra hn
  rw [decide_eq_false hn] at h'
  exact absurd h' (by decide)

/-- A sum of products of reals is not minus infinity. -/
theorem sum_mul_ne_bot {n : Nat} (f g : Fin n → EReal) (hf : ∀ k, ∃ r : ℝ, f k = (r : EReal)) (hg : ∀ k, ∃ r : ℝ, g k = (r : EReal)) :
    ∑ k, f k * g k ≠ ⊥ := by
  choose u hu using hf
  choose v hv using hg
  have e : ∑ k, f k * g k = ((∑ k, u k * v k : ℝ) : EReal) := by
    rw [Finset.sum_congr rfl fun k _ => show f k * g k = ((u k * v k : ℝ) : EReal) by rw [hu, hv, EReal.coe_mul]]
    exact (map_sum (⟨⟨Real.toEReal, EReal.coe_zero⟩, EReal.coe_add⟩ : ℝ →+ EReal) _ _).symm
  rw [e]
  exact EReal.coe_ne_bot _

/-- Under the precondition every feature of both arguments is a real number. -/
theorem real_of_finite (x0 : FVec Ideal S16x196x384 .f32) (x1 : FVec Ideal S196x384x500 .f32) (x2 : IVec S196x256x500 32)
    (h : Cert.Pre_finite.fn (F := Ideal) x0 x1 x2 = fun _ => 1#1) :
    (∀ j, ∃ r : ℝ, x0 j = (r : EReal)) ∧ ∀ j, ∃ r : ℝ, x1 j = (r : EReal) := by
  have hs : Subsingleton Cert.Pre_finite.S_.Idx := ⟨fun _ _ => funext fun a => a.elim0⟩
  have hc := IntOp.andi_eq_one.1 (congrFun h (fun a => a.elim0))
  exact ⟨fun j => real_of_below _ (Host.reduce_andi_all _ _ _ _ _ hc.1 j), fun j => real_of_below _ (Host.reduce_andi_all _ _ _ _ _ hc.2 j)⟩

/-- Under the precondition no similarity is minus infinity. -/
theorem simRow_ne_bot (x0 : FVec Ideal S16x196x384 .f32) (x1 : FVec Ideal S196x384x500 .f32) (x2 : IVec S196x256x500 32)
    (h : Cert.Pre_finite.fn (F := Ideal) x0 x1 x2 = fun _ => 1#1) (i : Fin 16) (p : Fin 196) (l : Fin 500) :
    simRow x0 x1 i p l ≠ ⊥ :=
  sum_mul_ne_bot _ _ (fun _ => (real_of_finite x0 x1 x2 h).1 _) fun _ => (real_of_finite x0 x1 x2 h).2 _

end Cert.Knn

end
-- ==== Proof.lean ====
/-
  The certificate: the kernel and the reference run, keep their arguments and leave every semaphore at zero, and on
  features that are real numbers they end with the same label maps and the same distances.
-/
module

public import proofs.«01_k».proof.Defs
public import proofs.«01_k».proof.Proof.Gen.Pre_finite
public import proofs.«01_k».proof.Proof.Gen.Kernel.Frame
public import proofs.«01_k».proof.Proof.Gen.ReferenceIdeal.Run
public import proofs.«01_k».proof.Proof.Gen.ReferenceIdeal.Read
public import Idealize.ShloMosaic.Lib.Quiescent
public import proofs.«01_k».proof.Proof.Result
public import proofs.«01_k».proof.Proof.Reference
public import proofs.«01_k».proof.Proof.Finite

@[expose] public section

set_option maxRecDepth 16384

noncomputable section

namespace Cert.Proof

open Idealize.ShloMosaic Idealize.SL.Sem Cert.Knn

/-- The reference runs, keeps its arguments, and leaves every semaphore counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run m ρ)

/-- Every run of the reference on features without a similarity of minus infinity ends with the label maps and the
    table of distances of its arguments, which are unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg)
    (hx : ∀ (c : Dev Cert.ReferenceIdeal.nD) i p l,
      simRow (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1)) i p l ≠ ⊥) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v11) =
          labelMaps (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_values) =
          distTable (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  (θ_run Cert.ReferenceIdeal.defs _ _).mono
    (fun _ h c =>
      ⟨((h c).1.trans (Cert.ReferenceIdeal.Read.val_main_v11_eq m c)).trans (maps_eq _ _ _ (hx c)),
        ((h c).2.1.trans (Cert.ReferenceIdeal.Read.val_main_values_eq _ _)).trans (values_eq _ _ (hx c)), (h c).2.2⟩)
    (Cert.ReferenceIdeal.Value.run m ρ)

/-- Kernel and reference end with the same label maps and the same distances. -/
theorem same_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hm
  refine ⟨fun c => labelMaps (arg0 m c) (arg1 m c) (arg2 m c), fun c => distTable (arg0 m c) (arg1 m c), kernel_run m g, ?_⟩
  have hx : ∀ (c : Dev Cert.ReferenceIdeal.nD) i p l,
      simRow (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) i p l ≠ ⊥ := by
    intro c i p l
    rw [(hm c).1, (hm c).2.1]
    exact simRow_ne_bot _ _ _ (hpre c) i p l
  refine (θ_run Cert.ReferenceIdeal.defs _ _).mono (fun r h c => ⟨(h c).1.trans ?_, (h c).2.1.trans ?_, (h c).2.2⟩) (reference_run m' g' hx)
  · rw [(hm c).1, (hm c).2.1, (hm c).2.2]
  · rw [(hm c).1, (hm c).2.1]

/-- Everything claimed. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, same_results⟩

end Cert.Proof

end
